-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v42) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S1x1024x64x128 : Shape := ⟨4, ![1, 1024, 64, 128]⟩
abbrev S_ : Shape := ⟨0, ![]⟩
abbrev S1024x64x128 : Shape := ⟨3, ![1024, 64, 128]⟩
abbrev S1024x8x128 : Shape := ⟨3, ![1024, 8, 128]⟩
abbrev S8x128x1024 : Shape := ⟨3, ![8, 128, 1024]⟩
abbrev S128x1024 : Shape := ⟨2, ![128, 1024]⟩
abbrev S8 : Shape := ⟨1, ![8]⟩
abbrev S1024x128 : Shape := ⟨2, ![1024, 128]⟩
abbrev S1024x1x128 : Shape := ⟨3, ![1024, 1, 128]⟩
abbrev S1024 : Shape := ⟨1, ![1024]⟩
abbrev S1024x1 : Shape := ⟨2, ![1024, 1]⟩
abbrev S1 : Shape := ⟨1, ![1]⟩
abbrev S1x128x1024 : Shape := ⟨3, ![1, 128, 1024]⟩

abbrev nBuf : Space → Nat
  | .hbm => 36
  | .vmem => 11
  | .smem => 0
  | _ => 0

abbrev bufTy : (tb : Table) → Fin (tcTables nBuf tb) → BufTy
  | .hbm, ⟨0, _⟩ => ⟨S1x1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1024x1024, .f32⟩
  | .hbm, ⟨12, _⟩ => ⟨S1024x64x128, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024x8x128, .f32⟩
  | .hbm, ⟨23, _⟩ => ⟨S1024x64x128, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S1024x8x128, .f32⟩
  | .hbm, ⟨34, _⟩ => ⟨S1024x1024, .f32⟩
  | .hbm, ⟨35, _⟩ => ⟨S1x1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x8x128, .f32⟩
  | .local _ .vmem, ⟨3, _⟩ => ⟨S1024x8x128, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .bf16⟩
  | .local _ .vmem, ⟨8, _⟩ => ⟨S8x128x1024, .bf16⟩
  | .local _ .vmem, ⟨9, _⟩ => ⟨S128x1024, .bf16⟩
  | .local _ .vmem, ⟨10, _⟩ => ⟨S8x128x1024, .bf16⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_v9 : Ref sig .tc := ⟨.hbm, 18, rfl⟩
abbrev main_v10 : Ref sig .tc := ⟨.hbm, 19, rfl⟩
abbrev main_c_4 : Ref sig .tc := ⟨.hbm, 20, rfl⟩
abbrev main_c_5 : Ref sig .tc := ⟨.hbm, 21, rfl⟩
abbrev main_v11 : Ref sig .tc := ⟨.hbm, 22, rfl⟩
abbrev main_v12 : Ref sig .tc := ⟨.hbm, 23, rfl⟩
abbrev main_c_6 : Ref sig .tc := ⟨.hbm, 24, rfl⟩
abbrev main_v13 : Ref sig .tc := ⟨.hbm, 25, rfl⟩
abbrev main_c_7 : Ref sig .tc := ⟨.hbm, 26, rfl⟩
abbrev main_v14 : Ref sig .tc := ⟨.hbm, 27, rfl⟩
abbrev main_c_8 : Ref sig .tc := ⟨.hbm, 28, rfl⟩
abbrev main_v15 : Ref sig .tc := ⟨.hbm, 29, rfl⟩
abbrev main_v16 : Ref sig .tc := ⟨.hbm, 30, rfl⟩
abbrev main_c_9 : Ref sig .tc := ⟨.hbm, 31, rfl⟩
abbrev main_c_10 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_125 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v228 : BitVec 32 := Scalar.addi v2 c1_i32_125
  let c8_i32_126 : BitVec 32 := 8#32
  let v229 : BitVec 32 := Scalar.remsi v228 c8_i32_126
  let c128_i32_127 : BitVec 32 := 128#32
  let v230 : BitVec 32 := Scalar.muli v229 c128_i32_127
  let v231 : Index := Scalar.indexCast v230
  let c0_128 : Index := 0#32
  ![v231.toNat, 0]
def k0_off2 (d0 : Dev nD) (c1_i32_125 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v228 : BitVec 32 := Scalar.addi v2 c1_i32_125
  let c8_i32_126 : BitVec 32 := 8#32
  let v229 : BitVec 32 := Scalar.remsi v228 c8_i32_126
  let c128_i32_127 : BitVec 32 := 128#32
  let v230 : BitVec 32 := Scalar.muli v229 c128_i32_127
  let c0_i32_140 : BitVec 32 := 0#32
  ![v230.toNat, 0]
def k0_dev8 (d0 : Dev nD) : Nat :=
  let c0_i32_137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_125 : BitVec 32 := 1#32
  let v228 : BitVec 32 := Scalar.addi v2 c1_i32_125
  let c8_i32_126 : BitVec 32 := 8#32
  let v229 : BitVec 32 := Scalar.remsi v228 c8_i32_126
  let c1_i32_136 : BitVec 32 := 1#32
  let v241 : BitVec 32 := Scalar.muli v229 c1_i32_136
  let v242 : BitVec 32 := Scalar.addi c0_i32_137 v241
  v242.toNat
def k0_dev9 (d0 : Dev nD) : Nat :=
  let c0_i32_153 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_141 : BitVec 32 := 2#32
  let v250 : BitVec 32 := Scalar.addi v2 c2_i32_141
  let c8_i32_142 : BitVec 32 := 8#32
  let v251 : BitVec 32 := Scalar.remsi v250 c8_i32_142
  let c1_i32_152 : BitVec 32 := 1#32
  let v263 : BitVec 32 := Scalar.muli v251 c1_i32_152
  let v264 : BitVec 32 := Scalar.addi c0_i32_153 v263
  v264.toNat
def k0_dev10 (d0 : Dev nD) : Nat :=
  let c0_i32_169 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_157 : BitVec 32 := 3#32
  let v272 : BitVec 32 := Scalar.addi v2 c3_i32_157
  let c8_i32_158 : BitVec 32 := 8#32
  let v273 : BitVec 32 := Scalar.remsi v272 c8_i32_158
  let c1_i32_168 : BitVec 32 := 1#32
  let v285 : BitVec 32 := Scalar.muli v273 c1_i32_168
  let v286 : BitVec 32 := Scalar.addi c0_i32_169 v285
  v286.toNat
def k0_dev11 (d0 : Dev nD) : Nat :=
  let c0_i32_185 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_173 : BitVec 32 := 4#32
  let v294 : BitVec 32 := Scalar.addi v2 c4_i32_173
  let c8_i32_174 : BitVec 32 := 8#32
  let v295 : BitVec 32 := Scalar.remsi v294 c8_i32_174
  let c1_i32_184 : BitVec 32 := 1#32
  let v307 : BitVec 32 := Scalar.muli v295 c1_i32_184
  let v308 : BitVec 32 := Scalar.addi c0_i32_185 v307
  v308.toNat
def k0_dev12 (d0 : Dev nD) : Nat :=
  let c0_i32_201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_189 : BitVec 32 := 5#32
  let v316 : BitVec 32 := Scalar.addi v2 c5_i32_189
  let c8_i32_190 : BitVec 32 := 8#32
  let v317 : BitVec 32 := Scalar.remsi v316 c8_i32_190
  let c1_i32_200 : BitVec 32 := 1#32
  let v329 : BitVec 32 := Scalar.muli v317 c1_i32_200
  let v330 : BitVec 32 := Scalar.addi c0_i32_201 v329
  v330.toNat
def k0_dev13 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_205 : BitVec 32 := 6#32
  let v338 : BitVec 32 := Scalar.addi v2 c6_i32_205
  let c8_i32_206 : BitVec 32 := 8#32
  let v339 : BitVec 32 := Scalar.remsi v338 c8_i32_206
  let c1_i32_216 : BitVec 32 := 1#32
  let v351 : BitVec 32 := Scalar.muli v339 c1_i32_216
  let v352 : BitVec 32 := Scalar.addi c0_i32_217 v351
  v352.toNat
def k0_dev14 (d0 : Dev nD) : Nat :=
  let c0_i32_233 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_221 : BitVec 32 := 7#32
  let v360 : BitVec 32 := Scalar.addi v2 c7_i32_221
  let c8_i32_222 : BitVec 32 := 8#32
  let v361 : BitVec 32 := Scalar.remsi v360 c8_i32_222
  let c1_i32_232 : BitVec 32 := 1#32
  let v373 : BitVec 32 := Scalar.muli v361 c1_i32_232
  let v374 : BitVec 32 := Scalar.addi c0_i32_233 v373
  v374.toNat
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_237 : BitVec 32 := 128#32
  let v382 : BitVec 32 := Scalar.muli v2 c128_i32_237
  let v383 : Index := Scalar.indexCast v382
  let c0_238 : Index := 0#32
  ![v383.toNat, 0]
def k0_dev15 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_350 : BitVec 32 := 1#32
  let v492 : BitVec 32 := Scalar.addi v2 c1_i32_350
  let c8_i32_351 : BitVec 32 := 8#32
  let v493 : BitVec 32 := Scalar.remsi v492 c8_i32_351
  let c1_i32_355 : BitVec 32 := 1#32
  let v494 : BitVec 32 := Scalar.muli v493 c1_i32_355
  let v495 : BitVec 32 := Scalar.addi c0_i32_356 v494
  v495.toNat
def k0_dev16 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_359 : BitVec 32 := 2#32
  let v502 : BitVec 32 := Scalar.addi v2 c2_i32_359
  let c8_i32_360 : BitVec 32 := 8#32
  let v503 : BitVec 32 := Scalar.remsi v502 c8_i32_360
  let c1_i32_364 : BitVec 32 := 1#32
  let v504 : BitVec 32 := Scalar.muli v503 c1_i32_364
  let v505 : BitVec 32 := Scalar.addi c0_i32_365 v504
  v505.toNat
def k0_dev17 (d0 : Dev nD) : Nat :=
  let c0_i32_374 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_368 : BitVec 32 := 3#32
  let v512 : BitVec 32 := Scalar.addi v2 c3_i32_368
  let c8_i32_369 : BitVec 32 := 8#32
  let v513 : BitVec 32 := Scalar.remsi v512 c8_i32_369
  let c1_i32_373 : BitVec 32 := 1#32
  let v514 : BitVec 32 := Scalar.muli v513 c1_i32_373
  let v515 : BitVec 32 := Scalar.addi c0_i32_374 v514
  v515.toNat
def k0_dev18 (d0 : Dev nD) : Nat :=
  let c0_i32_383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_377 : BitVec 32 := 4#32
  let v522 : BitVec 32 := Scalar.addi v2 c4_i32_377
  let c8_i32_378 : BitVec 32 := 8#32
  let v523 : BitVec 32 := Scalar.remsi v522 c8_i32_378
  let c1_i32_382 : BitVec 32 := 1#32
  let v524 : BitVec 32 := Scalar.muli v523 c1_i32_382
  let v525 : BitVec 32 := Scalar.addi c0_i32_383 v524
  v525.toNat
def k0_dev19 (d0 : Dev nD) : Nat :=
  let c0_i32_392 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_386 : BitVec 32 := 5#32
  let v532 : BitVec 32 := Scalar.addi v2 c5_i32_386
  let c8_i32_387 : BitVec 32 := 8#32
  let v533 : BitVec 32 := Scalar.remsi v532 c8_i32_387
  let c1_i32_391 : BitVec 32 := 1#32
  let v534 : BitVec 32 := Scalar.muli v533 c1_i32_391
  let v535 : BitVec 32 := Scalar.addi c0_i32_392 v534
  v535.toNat
def k0_dev20 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_395 : BitVec 32 := 6#32
  let v542 : BitVec 32 := Scalar.addi v2 c6_i32_395
  let c8_i32_396 : BitVec 32 := 8#32
  let v543 : BitVec 32 := Scalar.remsi v542 c8_i32_396
  let c1_i32_400 : BitVec 32 := 1#32
  let v544 : BitVec 32 := Scalar.muli v543 c1_i32_400
  let v545 : BitVec 32 := Scalar.addi c0_i32_401 v544
  v545.toNat
def k0_dev21 (d0 : Dev nD) : Nat :=
  let c0_i32_410 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_404 : BitVec 32 := 7#32
  let v552 : BitVec 32 := Scalar.addi v2 c7_i32_404
  let c8_i32_405 : BitVec 32 := 8#32
  let v553 : BitVec 32 := Scalar.remsi v552 c8_i32_405
  let c1_i32_409 : BitVec 32 := 1#32
  let v554 : BitVec 32 := Scalar.muli v553 c1_i32_409
  let v555 : BitVec 32 := Scalar.addi c0_i32_410 v554
  v555.toNat
def k0_off4 (d0 : Dev nD) (c1_i32_413 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v562 : BitVec 32 := Scalar.subi v2 c1_i32_413
  let c8_i32_414 : BitVec 32 := 8#32
  let v563 : BitVec 32 := Scalar.addi v562 c8_i32_414
  let c8_i32_415 : BitVec 32 := 8#32
  let v564 : BitVec 32 := Scalar.remsi v563 c8_i32_415
  let c128_i32_426 : BitVec 32 := 128#32
  let v574 : BitVec 32 := Scalar.muli v564 c128_i32_426
  let v575 : Index := Scalar.indexCast v574
  let c0_427 : Index := 0#32
  ![v575.toNat, 0]
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x1024x1024 : Shape := ⟨3, ![1, 1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1x1024x8192 : Shape := ⟨3, ![1, 1024, 8192]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S_ : Shape := ⟨0, ![]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩

abbrev nBuf : Space → Nat
  | .hbm => 67
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1024x8192, .f32⟩
  | .hbm, ⟨2, _⟩ => ⟨S1x1024x64x128, .f32⟩
  | .hbm, ⟨3, _⟩ => ⟨S1x1024x64x128, .f32⟩
  | .hbm, ⟨4, _⟩ => ⟨S8192x1024, .f32⟩
  | .hbm, ⟨5, _⟩ => ⟨S1x1024x8192, .f32⟩
  | .hbm, ⟨6, _⟩ => ⟨S1x1024x64x128, .f32⟩
  | .hbm, ⟨7, _⟩ => ⟨S1024, .i32⟩
  | .hbm, ⟨8, _⟩ => ⟨S1024x1, .i32⟩
  | .hbm, ⟨9, _⟩ => ⟨S1024, .i32⟩
  | .hbm, ⟨10, _⟩ => ⟨S1x1024, .i32⟩
  | .hbm, ⟨11, _⟩ => ⟨S1024x1024, .i32⟩
  | .hbm, ⟨12, _⟩ => ⟨S1024x1024, .i32⟩
  | .hbm, ⟨13, _⟩ => ⟨S1024x1024, .i32⟩
  | .hbm, ⟨14, _⟩ => ⟨S1024x1024, .i32⟩
  | .hbm, ⟨15, _⟩ => ⟨S_, .i32⟩
  | .hbm, ⟨16, _⟩ => ⟨S1024x1024, .i32⟩
  | .hbm, ⟨17, _⟩ => ⟨S1024x1024, .i1⟩
  | .hbm, ⟨18, _⟩ => ⟨S_, .i32⟩
  | .hbm, ⟨19, _⟩ => ⟨S1x1024, .i32⟩
  | .hbm, ⟨20, _⟩ => ⟨S1x1024, .i1⟩
  | .hbm, ⟨21, _⟩ => ⟨S_, .i32⟩
  | .hbm, ⟨22, _⟩ => ⟨S1024x1, .i32⟩
  | .hbm, ⟨23, _⟩ => ⟨S1024x1, .i1⟩
  | .hbm, ⟨24, _⟩ => ⟨S1024x1024, .i1⟩
  | .hbm, ⟨25, _⟩ => ⟨S1024x1024, .i1⟩
  | .hbm, ⟨26, _⟩ => ⟨S1024x1024, .i1⟩
  | .hbm, ⟨27, _⟩ => ⟨S1024x1024, .i1⟩
  | .hbm, ⟨28, _⟩ => ⟨S1x64x1024x1024, .f32⟩
  | .hbm, ⟨29, _⟩ => ⟨S_, .f32⟩
  | .hbm, ⟨30, _⟩ => ⟨S1x64x1024x1024, .f32⟩
  | .hbm, ⟨31, _⟩ => ⟨S1x64x1024x1024, .f32⟩
  | .hbm, ⟨32, _⟩ => ⟨S1x1x1024x1024, .i1⟩
  | .hbm, ⟨33, _⟩ => ⟨S_, .f32⟩
  | .hbm, ⟨34, _⟩ => ⟨S_, .f32⟩
  | .hbm, ⟨35, _⟩ => ⟨S1x64x1024x1024, .i1⟩
  | .hbm, ⟨36, _⟩ => ⟨S1x64x1024x1024, .f32⟩
  | .hbm, ⟨37, _⟩ => ⟨S1x64x1024x1024, .f32⟩
  | .hbm, ⟨38, _⟩ => ⟨S_, .f32⟩
  | .hbm, ⟨39, _⟩ => ⟨S1x64x1024, .f32⟩
  | .hbm, ⟨40, _⟩ => ⟨S1x64x1024x1, .f32⟩
  | .hbm, ⟨41, _⟩ => ⟨S1x64x1024x1024, .f32⟩
  | .hbm, ⟨42, _⟩ => ⟨S1x64x1024x1024, .f32⟩
  | .hbm, ⟨43, _⟩ => ⟨S1x64x1024x1024, .f32⟩
  | .hbm, ⟨44, _⟩ => ⟨S_, .i1⟩
  | .hbm, ⟨45, _⟩ => ⟨S1024, .i1⟩
  | .hbm, ⟨46, _⟩ => ⟨S1x1x1024x1, .i1⟩
  | .hbm, ⟨47, _⟩ => ⟨S_, .f32⟩
  | .hbm, ⟨48, _⟩ => ⟨S1x64x1024, .f32⟩
  | .hbm, ⟨49, _⟩ => ⟨S1x64x1024x1, .f32⟩
  | .hbm, ⟨50, _⟩ => ⟨S_, .f32⟩
  | .hbm, ⟨51, _⟩ => ⟨S_, .f32⟩
  | .hbm, ⟨52, _⟩ => ⟨S1x64x1024x1, .i1⟩
  | .hbm, ⟨53, _⟩ => ⟨S1x64x1024x1, .f32⟩
  | .hbm, ⟨54, _⟩ => ⟨S1x64x1024x1, .f32⟩
  | .hbm, ⟨55, _⟩ => ⟨S1x64x1024x1024, .f32⟩
  | .hbm, ⟨56, _⟩ => ⟨S1x64x1024x1024, .f32⟩
  | .hbm, ⟨57, _⟩ => ⟨S1x1x1024x1, .i1⟩
  | .hbm, ⟨58, _⟩ => ⟨S_, .f32⟩
  | .hbm, ⟨59, _⟩ => ⟨S_, .f32⟩
  | .hbm, ⟨60, _⟩ => ⟨S1x64x1024x1024, .i1⟩
  | .hbm, ⟨61, _⟩ => ⟨S1x64x1024x1024, .f32⟩
  | .hbm, ⟨62, _⟩ => ⟨S1x64x1024x1024, .f32⟩
  | .hbm, ⟨63, _⟩ => ⟨S1x64x128x1024, .f32⟩
  | .hbm, ⟨64, _⟩ => ⟨S1x1024x64x128, .f32⟩
  | .hbm, ⟨65, _⟩ => ⟨S1x1024x8192, .f32⟩
  | .hbm, ⟨66, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩

abbrev nD : Nat := 1
abbrev τ : Topo := Topo.v7x

variable {F : FTy → Type} [FloatOps F]
-- ==== Proof.KValues.lean ====
/- What the kernel computes, as functions of the inputs each device holds: the eight heads' context, the
   product of one block of rows with the device's part of the output weights, the block a device reduces,
   and the array every device ends with. -/
module

public import proofs.«01_k».proof.Proof.Gen.KernelIdeal.Skeleton
public import Idealize.ShloMosaic.Lib.VecWindow

@[expose] public section

noncomputable section

namespace Cert.KernelIdeal.Run

open Idealize.ShloMosaic Idealize.SL.Sem Cert.KernelIdeal.Gen

variable {F : FTy → Type} [FloatOps F] [Named F]

/-- What one device reads: the rows `x`, its columns of the query weights, its rows of the output
    weights, and its heads of the keys and values. -/
structure Inp (F : FTy → Type) where
  x : Vec F S1024x1024 .f32
  wq : Vec F S1024x1024 .f32
  k : Vec F S1024x8x128 .f32
  v : Vec F S1024x8x128 .f32
  wo : Vec F S1024x1024 .f32

/-- The device `k + 1` places after `c` on the ring. -/
def fwd (k : Fin 7) (c : Dev nD) : Dev nD := ⟨(c.val + k.val + 1) % 8, Nat.mod_lt _ (by decide)⟩

/-- The device `k + 1` places before `c` on the ring. -/
def bwd (k : Fin 7) (c : Dev nD) : Dev nD := ⟨(c.val + 7 - k.val) % 8, Nat.mod_lt _ (by decide)⟩

theorem fwd_bwd (k : Fin 7) (c : Dev nD) : fwd k (bwd k c) = c := by revert k c; decide
theorem bwd_fwd (k : Fin 7) (c : Dev nD) : bwd k (fwd k c) = c := by revert k c; decide
theorem fwd_rev (k : Fin 7) (c : Dev nD) : fwd k.rev (fwd k c) = c := by revert k c; decide

/-- The ring turned by `k + 1` places. -/
def turn (k : Fin 7) : Dev nD ≃ Dev nD := ⟨fwd k, bwd k, bwd_fwd k, fwd_bwd k⟩

/-- Every device is `c` itself or one of its seven predecessors, once. -/
theorem bwd_inj (c : Dev nD) {i j : Fin 7} (h : bwd i c = bwd j c) : i = j := by revert c i j; decide
theorem bwd_ne (c : Dev nD) (k : Fin 7) : bwd k c ≠ c := by revert c k; decide
theorem fwd_inj (c : Dev nD) {i j : Fin 7} (h : fwd i c = fwd j c) : i = j := by revert c i j; decide
theorem fwd_ne (c : Dev nD) (k : Fin 7) : fwd k c ≠ c := by revert c k; decide

/-- Where head `h` starts among the columns. -/
def colOff (h : Fin 8) : Fin 2 → ℕ := ![0, 128 * h.val]
/-- Where block `r` starts among the rows. -/
def rowOff (r : Fin 8) : Fin 2 → ℕ := ![128 * r.val, 0]
/-- Where slot `t` starts. -/
def slotOff (t : Fin 8) : Fin 3 → ℕ := ![t.val, 0, 0]
/-- Where head `h` starts in the keys and the values. -/
def headOff (h : Fin 8) : Fin 3 → ℕ := ![0, h.val, 0]

theorem colInb (h : Fin 8) : ∀ a, colOff h a + S1024x128.size a ≤ S1024x1024.size a := by revert h; decide
theorem rowInb (r : Fin 8) : ∀ a, rowOff r a + S128x1024.size a ≤ S1024x1024.size a := by revert r; decide
theorem slotInb (t : Fin 8) : ∀ a, slotOff t a + S1x128x1024.size a ≤ S8x128x1024.size a := by revert t; decide
theorem headInb (h : Fin 8) : ∀ a, headOff h a + S1024x1x128.size a ≤ S1024x8x128.size a := by revert h; decide
theorem colSlices (h : Fin 8) : S1024x1024.Slices (colOff h) S1024x128 := by revert h; decide

/-- Block `r` of the rows of `x`. -/
def rowsOf {e : EltTy} (x : Vec F S1024x1024 e) (r : Fin 8) : Vec F S128x1024 e :=
  VecWindow.window x (rowOff r) S128x1024.size (rowInb r)

/-- Head `h` of the keys or the values. -/
def headOf (x : Vec F S1024x8x128 .f32) (h : Fin 8) : Vec F S1024x1x128 .f32 :=
  VecWindow.window x (headOff h) S1024x1x128.size (headInb h)

/-- The queries of all eight heads. -/
def queries (a : Inp F) : FVec F S1024x1024 .f32 := k0_pay1 a.x a.wq

/-- The attention of one head: softmax of the scaled scores and the mask, times the values. -/
def headVal (a : Inp F) (h : Fin 8) : FVec F S1024x128 .f32 :=
  k0_pay5 (k0_pay2 (F := F)) (extractStridedSlice S1024x128 (colOff h) (queries a) (colSlices h))
    (k0_pay4 (headOf a.k h)) (headOf a.v h)

/-- The index of a matrix at a row and a column. -/
def ix2 {s : Fin 2 → ℕ} (a : Fin (s 0)) (b : Fin (s 1)) : (d : Fin 2) → Fin (s d)
  | ⟨0, _⟩ => a
  | ⟨1, _⟩ => b

/-- Two indices of a matrix with the same row and column are the same. -/
theorem ext2 {s : Fin 2 → ℕ} {x y : (d : Fin 2) → Fin (s d)} (h0 : (x 0).val = (y 0).val) (h1 : (x 1).val = (y 1).val) :
    x = y := funext fun
  | ⟨0, _⟩ => Fin.ext h0
  | ⟨1, _⟩ => Fin.ext h1

/-- The heads side by side. -/
def ctxOf (a : Inp F) : FVec F S1024x1024 .f32 := fun i =>
  headVal a ⟨(i 1).val / 128, by have : (i 1).val < 1024 := (i 1).isLt; omega⟩
    (ix2 (s := S1024x128.size) (i 0) ⟨(i 1).val % 128, Nat.mod_lt _ (by decide)⟩)

/-- The part of block `r` of the output that one device contributes, rounded as it is sent. -/
def partVal (a : Inp F) (r : Fin 8) : FVec F S128x1024 .bf16 := k0_pay19 (rowsOf (ctxOf a) r) a.wo

theorem slotCasts : S128x1024.ShapeCasts S1x128x1024 := by decide

/-- A block as it lies in a slot. -/
def unsq {e : EltTy} (x : Vec F S128x1024 e) : Vec F S1x128x1024 e := shapeCast S1x128x1024 x slotCasts

/-- What the slot `k` of device `c` receives in the first exchange. -/
def recvVal (I : Dev nD → Inp F) (k : Fin 7) (c : Dev nD) : Vec F S1x128x1024 .bf16 :=
  unsq (partVal (I (bwd k c)) c)

/-- The block of the output that device `c` reduces. -/
def totalOf (I : Dev nD → Inp F) (c : Dev nD) : FVec F S128x1024 .f32 :=
  k0_pay29 (k0_pay28 (k0_pay27 (k0_pay26 (rowsOf (ctxOf (I c)) c) (I c).wo (recvVal I 0 c))
    (recvVal I 1 c) (recvVal I 2 c)) (recvVal I 3 c) (recvVal I 4 c)) (recvVal I 5 c) (recvVal I 6 c)

/-- That block, rounded as it is sent. -/
def sentOf (I : Dev nD → Inp F) (c : Dev nD) : FVec F S128x1024 .bf16 := k0_pay30 (totalOf I c)

/-- What the slot `k` of device `c` receives in the second exchange. -/
def gotVal (I : Dev nD → Inp F) (k : Fin 7) (c : Dev nD) : Vec F S1x128x1024 .bf16 :=
  unsq (sentOf I (bwd k c))

/-- Block `r` of what device `c` ends with: its own block unrounded, the others as they came. -/
def outRow (I : Dev nD → Inp F) (c r : Dev nD) : FVec F S128x1024 .f32 :=
  if r = c then totalOf I c else k0_pay31 (unsq (sentOf I r))

/-- The array assembled from its eight blocks of rows. -/
def assemble {e : EltTy} (x : Fin 8 → Vec F S128x1024 e) : Vec F S1024x1024 e := fun i =>
  x ⟨(i 0).val / 128, by have : (i 0).val < 1024 := (i 0).isLt; omega⟩
    (ix2 (s := S128x1024.size) ⟨(i 0).val % 128, Nat.mod_lt _ (by decide)⟩ (i 1))

/-- What device `c` ends with. -/
def outOf (I : Dev nD → Inp F) (c : Dev nD) : FVec F S1024x1024 .f32 := assemble (F := F) (e := .f32) (outRow I c)

theorem rowEmb0 (r : Fin 8) (i : S128x1024.Idx) :
    ((Rect.unit (s := S1024x1024) (rowOff r) S128x1024.size (rowInb r)).emb i 0).val = 128 * r.val + (i 0).val := by
  show 128 * r.val + 1 * (i 0).val = _; omega
theorem rowEmb1 (r : Fin 8) (i : S128x1024.Idx) :
    ((Rect.unit (s := S1024x1024) (rowOff r) S128x1024.size (rowInb r)).emb i 1).val = (i 1).val := by
  show 0 + 1 * (i 1).val = _; omega
theorem colEmb0 (h : Fin 8) (i : S1024x128.Idx) :
    ((Rect.unit (s := S1024x1024) (colOff h) S1024x128.size (colInb h)).emb i 0).val = (i 0).val := by
  show 0 + 1 * (i 0).val = _; omega
theorem colEmb1 (h : Fin 8) (i : S1024x128.Idx) :
    ((Rect.unit (s := S1024x1024) (colOff h) S1024x128.size (colInb h)).emb i 1).val = 128 * h.val + (i 1).val := by
  show 128 * h.val + 1 * (i 1).val = _; omega

/-- A block of the assembled array is the block it was assembled from. -/
theorem rowsOf_assemble {e : EltTy} (x : Fin 8 → Vec F S128x1024 e) (r : Fin 8) : rowsOf (assemble x) r = x r := by
  funext i
  have h0 : (i 0).val < 128 := (i 0).isLt
  have e0 := rowEmb0 r i
  have e1 := rowEmb1 r i
  show x _ _ = x r i
  refine congr (congrArg x (Fin.ext ?_)) (ext2 (s := S128x1024.size) ?_ ?_)
  · show (_ : ℕ) / 128 = r.val
    rw [e0]; omega
  · show (_ : ℕ) % 128 = (i 0).val
    rw [e0]; omega
  · exact e1

/-- A column window of the context is one head. -/
theorem ctxOf_col (a : Inp F) (h : Fin 8) :
    VecWindow.window (ctxOf a) (colOff h) S1024x128.size (colInb h) = headVal a h := by
  funext i
  have h1 : (i 1).val < 128 := (i 1).isLt
  have e0 := colEmb0 h i
  have e1 := colEmb1 h i
  show headVal a _ _ = headVal a h i
  refine congr (congrArg (headVal a) (Fin.ext ?_)) (ext2 (s := S1024x128.size) ?_ ?_)
  · show (_ : ℕ) / 128 = h.val
    rw [e1]; omega
  · exact e0
  · show (_ : ℕ) % 128 = (i 1).val
    rw [e1]; omega

end Cert.KernelIdeal.Run
-- ==== Proof.KProto.lean ====
/- The protocol of the two exchanges, written down before the run: for each semaphore who waits on it, who
   raises it, by how much and in what order, and what each landing hands over.

   Every device first raises the barrier of each of its seven peers and waits for seven units of its own. The
   signal of a peer hands over the two slots of that peer this device will fill. The first exchange sends to
   each peer this device's part of that peer's block of rows; the second sends to every peer the block reduced
   here. A receive semaphore of slot `k` is raised by the device `k + 1` places before, and hands over the slot
   at the rounded block that device sent. A send semaphore hands the source back. -/
module

public import proofs.«01_k».proof.Proof.KValues
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Tactic
public import Idealize.ShloMosaic.Lib.Ring

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok)
open Cert.KernelIdeal.Gen

variable {F : FTy → Type} [FloatOps F] [Named F]

/-- The library's ghost state, and the rounds of the semaphores the kernel talks through. -/
abbrev UU : Type := UR sig nD τ × URounds (GSem nD τ sig) (Fin 7)

local notation "𝕄" => MT nD τ sig Unit (Elt F) ℕ UU ℕ

abbrev EP : Emb (UR sig nD τ) (MT nD τ sig Unit (Elt F) ℕ UU ℕ) := embL
abbrev ER : Emb (URounds (GSem nD τ sig) (Fin 7)) (MT nD τ sig Unit (Elt F) ℕ UU ℕ) := embR

/-! ## Semaphores -/

abbrev barS : Sem sig := (SemArray.scalar (sig.barrier 0 rfl) : Sems sig S_).sem

/-- The semaphore of peer `k` in family `j`: sends of the first exchange, receives of the first, sends of the
    second, receives of the second. -/
def dsem (j : Fin 4) (k : Fin 7) : DmaSem sig := ⟨7 + 8 * j.val + k.val, by
  have : sig.nDmaSem = 38 := rfl
  have := j.isLt; have := k.isLt; omega⟩

/-- Which family and peer a semaphore is of, if any. -/
def decode (s : DmaSem sig) : Option (Fin 4 × Fin 7) :=
  if h : 7 ≤ s.val ∧ (s.val - 6) % 8 ≠ 0 then
    some (⟨(s.val - 6) / 8, by have := s.isLt; have e : sig.nDmaSem = 38 := rfl; omega⟩,
      ⟨(s.val - 6) % 8 - 1, by omega⟩)
  else none

theorem decode_dsem (j : Fin 4) (k : Fin 7) : decode (dsem j k) = some (j, k) := by revert j k; decide

abbrev barCell (c : Dev nD) : GSem nD τ sig := ((c : Thread nD τ), .reg barS)
abbrev dCell (j : Fin 4) (k : Fin 7) (c : Dev nD) : GSem nD τ sig := ((c : Thread nD τ), .dma (dsem j k))

/-! ## Buffers -/

abbrev pM : Memref sig .tc .vmem S1024x1024 .bf16 := Memref.whole cc0_scratch1
abbrev stM : Memref sig .tc .vmem S8x128x1024 .bf16 := Memref.whole cc0_scratch2
abbrev bM : Memref sig .tc .vmem S128x1024 .bf16 := Memref.whole cc0_scratch3
abbrev rM : Memref sig .tc .vmem S8x128x1024 .bf16 := Memref.whole cc0_scratch4

/-- What a copy of one block counts for. -/
abbrev N : ℕ := (bM : Memref sig .tc .vmem S128x1024 .bf16).view.dmaCredit
theorem N_pos : 0 < N := View.dmaCredit_pos _ (by decide)

/-- Block `r` of the rows of a matrix. -/
abbrev rowRect (r : Fin 8) : Rect S1024x1024 := Rect.unit (rowOff r) S128x1024.size (rowInb r)
/-- The slot of peer `k`, which is slot `k + 1` of the eight. -/
abbrev slotRect (k : Fin 7) : Rect S8x128x1024 := Rect.unit (slotOff k.succ) S1x128x1024.size (slotInb k.succ)

/-- A view of a buffer of device `c`, held at contents that read as `X` through it. -/
def holds {sp : Space} {s : Shape} {e : EltTy} (c : Dev nD) (v : View sig .tc sp s e) (q : PosShare TreeShare) (X : Vec F s e) : sProp 𝕄 :=
  iprop(∃ f : Buf (Elt F) (v.loc (c : Thread nD τ)), ⌜v.read (Elt F) f = X⌝ ∗ (v.loc (c : Thread nD τ) ↦[v.set]{q} f))

/-- The same at contents not chosen. -/
def any {sp : Space} {s : Shape} {e : EltTy} (c : Dev nD) (v : View sig .tc sp s e) : sProp 𝕄 :=
  iprop(∃ f : Buf (Elt F) (v.loc (c : Thread nD τ)), (v.loc (c : Thread nD τ) ↦[v.set]{fullShare} f))

instance holds_storable {sp : Space} {s : Shape} {e : EltTy} (c : Dev nD) (v : View sig .tc sp s e) (q) (X : Vec F s e) :
    BI.Storable (upEmb : UEmb _ 𝕄) (holds (F := F) c v q X) := by unfold holds; infer_instance
instance any_storable {sp : Space} {s : Shape} {e : EltTy} (c : Dev nD) (v : View sig .tc sp s e) :
    BI.Storable (upEmb : UEmb _ 𝕄) (any (F := F) c v) := by unfold any; infer_instance

theorem holds_any {sp : Space} {s : Shape} {e : EltTy} (c : Dev nD) (v : View sig .tc sp s e) (X : Vec F s e) :
    holds (F := F) c v fullShare X ⊢ any (F := F) c v := by
  unfold holds any
  iintro ⟨%f, -, H⟩
  iexists f; iexact H

abbrev pRow (r : Fin 8) : View sig .tc .vmem S128x1024 .bf16 := pM.access (rowRect r)
abbrev stSlot (k : Fin 7) : View sig .tc .vmem S1x128x1024 .bf16 := stM.access (slotRect k)
abbrev rSlot (k : Fin 7) : View sig .tc .vmem S1x128x1024 .bf16 := rM.access (slotRect k)

/-- The share of the reduced block lent to peer `k`. -/
abbrev lent (k : Fin 7) : PosShare TreeShare := shareTok fullShare 7 k

/-! ## The schedule -/

/-- What the peer of barrier duty `j` hands to device `g`: the two slots `j` of that peer, and that their
    receive semaphores have begun. -/
def barPay (j : Fin 7) (g : Dev nD) : sProp 𝕄 :=
  iprop(any (fwd j g) (stSlot j) ∗ any (fwd j g) (rSlot j)
    ∗ reached ER (dCell 1 j (fwd j g)) 0 ∗ reached ER (dCell 3 j (fwd j g)) 0)

/-- What a landing of peer `k` hands to device `c`, by family. -/
def dmaPay (I : Dev nD → Inp F) : Fin 4 → Fin 7 → Dev nD → sProp 𝕄
  | 0, k, c => any c (pRow (fwd k c))
  | 1, k, c => holds c (stSlot k) fullShare (recvVal I k c)
  | 2, k, c => holds c bM.view (lent k) (sentOf I c)
  | 3, k, c => holds c (rSlot k) fullShare (gotVal I k c)

def talkRd (I : Dev nD → Inp F) : Rounds.Schedule (GSem nD τ sig) (Fin 7) 𝕄 where
  duties g r := if r = 0 ∧ g.1.2 = .tc then
      (match g.2 with
        | .reg s => if s = barS then Finset.univ else ∅
        | .dma s => match decode s with | some _ => {0} | none => ∅)
    else ∅
  unitless _ := False
  amount g _ _ := match g.2 with | .reg _ => 1 | .dma _ => N
  payload g _ d := match g.2 with
    | .reg _ => barPay d g.1.1
    | .dma s => match decode s with
      | some p => dmaPay I p.1 p.2 g.1.1
      | none => iprop(emp)
  amount_pos g _ _ _ := by
    cases g.2
    · exact Nat.one_pos
    · exact N_pos

instance dmaPay_storable (I : Dev nD → Inp F) (j : Fin 4) (k : Fin 7) (c : Dev nD) :
    BI.Storable (upEmb : UEmb _ 𝕄) (dmaPay (F := F) I j k c) := by
  match j with
  | 0 => unfold dmaPay; infer_instance
  | 1 => unfold dmaPay; infer_instance
  | 2 => unfold dmaPay; infer_instance
  | 3 => unfold dmaPay; infer_instance

instance talkRd_payload_storable (I : Dev nD → Inp F) (g : GSem nD τ sig) (r : ℕ) (d : Fin 7) :
    BI.Storable (upEmb : UEmb _ 𝕄) ((talkRd (F := F) I).payload g r d) := by
  unfold talkRd barPay
  dsimp only
  split
  · infer_instance
  · split <;> infer_instance

section Tables

variable (I : Dev nD → Inp F) (c : Dev nD) (j : Fin 4) (k : Fin 7)

theorem duties_bar : (talkRd I).duties (barCell c) 0 = Finset.univ := by
  dsimp only [talkRd]; rw [if_pos ⟨rfl, rfl⟩]; exact if_pos rfl
theorem duties_dma : (talkRd I).duties (dCell j k c) 0 = {0} := by
  dsimp only [talkRd]; rw [if_pos ⟨rfl, rfl⟩, decode_dsem]
theorem duties_later (g : GSem nD τ sig) : ∀ r, 1 ≤ r → (talkRd I).duties g r = ∅ :=
  fun r hr => by dsimp only [talkRd]; rw [if_neg (fun h => by omega)]
theorem amount_bar (d : Fin 7) : (talkRd I).amount (barCell c) 0 d = 1 := rfl
theorem amount_dma (d : Fin 7) : (talkRd I).amount (dCell j k c) 0 d = N := rfl
theorem payload_bar (d : Fin 7) : (talkRd I).payload (barCell c) 0 d = barPay d c := rfl
theorem payload_dma (d : Fin 7) : (talkRd I).payload (dCell j k c) 0 d = dmaPay I j k c := by
  dsimp only [talkRd]; rw [decode_dsem]
theorem expect_bar : (talkRd I).expect (barCell c) 0 = 7 := by
  unfold Schedule.expect Schedule.amountOf; rw [duties_bar]; rfl
theorem expect_dma : (talkRd I).expect (dCell j k c) 0 = N := by
  unfold Schedule.expect Schedule.amountOf; rw [duties_dma, Finset.sum_singleton, amount_dma]
theorem rest_bar : bigSep ((talkRd I).duties (barCell c) 0 \ ∅) (fun d => (talkRd I).payload (barCell c) 0 d)
    = bigSep Finset.univ fun d => barPay d c := by
  rw [Finset.sdiff_empty, duties_bar]; rfl
theorem rest_dma : bigSep ((talkRd I).duties (dCell j k c) 0 \ ∅) (fun d => (talkRd I).payload (dCell j k c) 0 d)
    = dmaPay I j k c := by
  rw [Finset.sdiff_empty, duties_dma, bigSep_singleton, payload_dma]

end Tables

/-! ## What is owed -/

/-- What is still owed to the cells `g k` from the `n`-th on. -/
def due (g : Fin 7 → GSem nD τ sig) (a n : ℕ) : CellTallies nD τ sig Unit :=
  ∑ k ∈ Finset.univ.filter (fun k : Fin 7 => n ≤ k.val), tallyAt (g k) () a

theorem due_step (g : Fin 7 → GSem nD τ sig) (a : ℕ) (k : Fin 7) :
    due g a k.val = due g a (k.val + 1) + tallyAt (g k) () a := by
  unfold due
  rw [show (Finset.univ.filter fun i : Fin 7 => k.val ≤ i.val) = insert k (Finset.univ.filter fun i : Fin 7 => k.val + 1 ≤ i.val) from by
      ext i; simp only [Finset.mem_filter, Finset.mem_univ, true_and, Finset.mem_insert, Fin.ext_iff]; omega,
    Finset.sum_insert (by simp), add_comm]

theorem due_done (g : Fin 7 → GSem nD τ sig) (a : ℕ) : due g a 7 = 0 := by
  unfold due
  rw [show (Finset.univ.filter fun i : Fin 7 => 7 ≤ i.val) = ∅ from by decide, Finset.sum_empty]

theorem due_pos (g : Fin 7 → GSem nD τ sig) (a n : ℕ) (x : GSem nD τ sig) (u : Unit) (h : 0 < due g a n x u) : ∃ k, x = g k := by
  by_contra hx
  have key : ∀ s : Finset (Fin 7), (∑ k ∈ s, tallyAt (g k) () a : CellTallies nD τ sig Unit) x u = 0 := fun s => by
    induction s using Finset.induction_on with
    | empty => rfl
    | insert k s hk ih =>
      rw [Finset.sum_insert hk]
      show tallyAt (g k) () a x u + (∑ k ∈ s, tallyAt (g k) () a : CellTallies nD τ sig Unit) x u = 0
      rw [ih, tallyAt_apply, if_neg fun e => hx ⟨k, e.1⟩]
  have := key (Finset.univ.filter fun k : Fin 7 => n ≤ k.val)
  unfold due at h
  omega

abbrev owedBar (c : Dev nD) (n : ℕ) := due (fun k => barCell (fwd k c)) 1 n
abbrev owedOne (c : Dev nD) (n : ℕ) := due (fun k => dCell 1 k (fwd k c)) N n
abbrev owedTwo (c : Dev nD) (n : ℕ) := due (fun k => dCell 3 k (fwd k c)) N n

/-- What a device owes at launch: both exchanges, and the barrier. -/
def O₀ (c : Dev nD) : CellTallies nD τ sig Unit := owedTwo c 0 + owedOne c 0 + owedBar c 0

def L (g : GSem nD τ sig) : Finset Unit := if g.1.2 = .tc then {()} else ∅

/-- The order the semaphores are waited in: the barrier, the first receives, the second receives. -/
def lv (g : GSem nD τ sig) (_ : Unit) : ℕ := match g.2 with
  | .reg _ => 1
  | .dma s => match decode s with
    | some p => if p.1 = 1 then 2 else if p.1 = 3 then 3 else 0
    | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_dma (j : Fin 4) (k : Fin 7) (c : Dev nD) (u : Unit) : lv (dCell j k c) u = if j = 1 then 2 else if j = 3 then 3 else 0 := by
  dsimp only [lv]; rw [decode_dsem]

theorem mayWait_of (c : Dev nD) (sm : SemLoc sig) (O : CellTallies nD τ sig Unit) (b : ℕ)
    (hb : lv ((c : Thread nD τ), sm) () ≤ b) (hO : ∀ g u, 0 < O g u → g.1.2 = .tc ∧ b < lv g u) :
    (levAts L lv : sProp 𝕄) ⊢ MayWait (c : Thread nD τ) sm () O :=
  MayOwe.of_cut (L := L) (lev := lv) b (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hb)
    (fun g u hg => (hO g u hg).2)

theorem owedTwo_lv (c : Dev nD) (n : ℕ) (g : GSem nD τ sig) (u : Unit) (h : 0 < owedTwo c n g u) : g.1.2 = .tc ∧ 2 < lv g u := by
  obtain ⟨k, rfl⟩ := due_pos _ _ _ _ _ h
  refine ⟨rfl, ?_⟩
  rw [lv_dma]; decide
theorem owedOne_lv (c : Dev nD) (n : ℕ) (g : GSem nD τ sig) (u : Unit) (h : 0 < owedOne c n g u) : g.1.2 = .tc ∧ 1 < lv g u := by
  obtain ⟨k, rfl⟩ := due_pos _ _ _ _ _ h
  refine ⟨rfl, ?_⟩
  rw [lv_dma]; decide
theorem owedBar_lv (c : Dev nD) (n : ℕ) (g : GSem nD τ sig) (u : Unit) (h : 0 < owedBar c n g u) : g.1.2 = .tc ∧ 0 < lv g u := by
  obtain ⟨k, rfl⟩ := due_pos _ _ _ _ _ h
  exact ⟨rfl, Nat.one_pos⟩

theorem mayWait_bar (c : Dev nD) :
    (levAts L lv : sProp 𝕄) ⊢ MayWait (c : Thread nD τ) (.reg barS) () (owedTwo c 0 + owedOne c 0) :=
  mayWait_of c _ _ 1 (le_of_eq (lv_bar c ())) fun g u h => by
    rcases Nat.add_pos_iff_pos_or_pos.mp (show 0 < owedTwo c 0 g u + owedOne c 0 g u from h) with h | h
    · have := owedTwo_lv c 0 g u h; exact ⟨this.1, by omega⟩
    · exact owedOne_lv c 0 g u h

theorem mayWait_one (c : Dev nD) (k : Fin 7) :
    (levAts L lv : sProp 𝕄) ⊢ MayWait (c : Thread nD τ) (.dma (dsem 1 k)) () (owedTwo c 0) :=
  mayWait_of c _ _ 2 (le_of_eq (lv_dma 1 k c ())) fun g u h => owedTwo_lv c 0 g u h

/-! ## Seven steps, one after another -/

/-- Of seven things, the first `n` done and the others still to do. -/
def prog (done todo : Fin 7 → sProp 𝕄) (n : ℕ) : sProp 𝕄 :=
  bigSep Finset.univ fun k : Fin 7 => if k.val < n then done k else todo k

theorem prog_zero (done todo : Fin 7 → sProp 𝕄) : prog done todo 0 = bigSep Finset.univ todo := by
  unfold prog; exact congrArg _ (funext fun k => if_neg (by omega))
theorem prog_seven (done todo : Fin 7 → sProp 𝕄) : prog done todo 7 = bigSep Finset.univ done := by
  unfold prog; exact congrArg _ (funext fun k => if_pos k.isLt)

theorem prog_step (done todo : Fin 7 → sProp 𝕄) (k : Fin 7) :
    prog done todo k.val ⊢ iprop(todo k ∗ (done k -∗ prog done todo (k.val + 1))) := by
  unfold prog
  rw [bigSep_univ_at (fun i : Fin 7 => if i.val < k.val then done i else todo i) k,
    bigSep_univ_at (fun i : Fin 7 => if i.val < k.val + 1 then done i else todo i) k, if_neg (by omega), if_pos (by omega)]
  iintro ⟨H, R⟩
  isplitl [H]; · iexact H
  iintro D
  isplitl [D]; · iexact D
  iapply (Entails.of_eq (bigSep_congr fun i hi => ?_)) $$ R
  have hne : i.val ≠ k.val := fun e => (Finset.mem_erase.mp hi).1 (Fin.ext e)
  by_cases h : i.val < k.val
  · rw [if_pos h, if_pos (by omega)]
  · rw [if_neg h, if_neg (by omega)]

/-- One of the things already done, taken out and put back. -/
theorem prog_look (done todo : Fin 7 → sProp 𝕄) (n : ℕ) (k : Fin 7) (h : k.val < n) :
    prog done todo n ⊢ iprop(done k ∗ (done k -∗ prog done todo n)) := by
  unfold prog
  rw [bigSep_univ_at (fun i : Fin 7 => if i.val < n then done i else todo i) k, if_pos h]
  iintro ⟨H, R⟩
  isplitl [H]; · iexact H
  iintro D
  isplitl [D]; · iexact D
  iexact R

end Cert.KernelIdeal.Run
-- ==== Proof.KSteps.lean ====
/- One step of the kernel at a time: a load, a store, a signal, a copy to a peer, a wait. Each is stated once,
   for any peer, with the offsets and semaphores the program spells given by equations. -/
module

public import proofs.«01_k».proof.Proof.KProto
public import Idealize.ShloMosaic.Lib.Pipeline.Value

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok)
open Cert.KernelIdeal.Gen

variable {F : FTy → Type} [FloatOps F] [Named F]

local notation "𝕄" => MT nD τ sig Unit (Elt F) ℕ UU ℕ

abbrev 𝒱₀ : Variants := Variants.none

/-- A program of the kernel on device `c`. -/
abbrev P (F : FTy → Type) [FloatOps F] [Named F] (α : Type) : Type 1 := Prog (TpuEff nD τ sig (Elt F) Λ₀ .tc) α

/-- From here the program `p` on device `c` runs to `Q`. -/
abbrev Wp {α : Type} (c : Dev nD) (p : P F α) (Q : α → sProp 𝕄) : sProp 𝕄 :=
  wp frame (wpE (defs₀ (F := F)) 𝒱₀ (c : Thread nD τ) none) Set.univ p Q

/-! ## Loads and stores -/

section Local

variable {α : Type} (c : Dev nD) {cs : CoreSpace} {s : Shape} {e : EltTy} {m : Memref sig .tc cs s e}

/-- A load of a window of a buffer held whole. -/
theorem load_view {Q : α → sProp 𝕄} {off off' size : Fin s.rank → ℕ} {inb : ∀ a, off a + size a ≤ s.size a} (h : off = off')
    (inb' : ∀ a, off' a + size a ≤ s.size a) {hl : m.view.LoadsAt (Rect.unit off size inb).toLoadRect} (q : PosShare TreeShare)
    (X : Vec F s e) {k : Vec F (Rect.unit off size inb).shape e → P F α} :
    iprop(holds c m.view q X ∗ (holds c m.view q X -∗ Wp c (k (VecWindow.window X off' size inb')) Q))
      ⊢ Wp c (Prog.lift (.load m (Rect.unit off size inb).toLoadRect hl) >>= k) Q := by
  unfold holds
  iintro ⟨⟨%f, %hf, H⟩, Hk⟩
  iapply (wp_load 𝒱₀ (c : Thread nD τ) none Set.univ (m := m) (r := (Rect.unit off size inb).toLoadRect) (hl := hl) (k := k)
    (S := m.view.set) (q := q) (f := f) (View.setOn_subset_set _ _)) $$ H
  iintro H
  rw [View.readAt_unit m.view f inb h inb', hf]
  iapply Hk
  iexists f
  isplitr; · ipureintro; exact hf
  iexact H

/-- A load of the whole of a buffer. -/
theorem load_full {Q : α → sProp 𝕄} {off : Fin s.rank → ℕ} {inb : ∀ a, off a + s.size a ≤ s.size a}
    {hl : m.view.LoadsAt (Rect.unit off s.size inb).toLoadRect} (q : PosShare TreeShare)
    (X : Vec F s e) {k : Vec F (Rect.unit off s.size inb).shape e → P F α} :
    iprop(holds c m.view q X ∗ (holds c m.view q X -∗ Wp c (k X) Q))
      ⊢ Wp c (Prog.lift (.load m (Rect.unit off s.size inb).toLoadRect hl) >>= k) Q := by
  unfold holds
  iintro ⟨⟨%f, %hf, H⟩, Hk⟩
  iapply (wp_load 𝒱₀ (c : Thread nD τ) none Set.univ (m := m) (r := (Rect.unit off s.size inb).toLoadRect) (hl := hl) (k := k)
    (S := m.view.set) (q := q) (f := f) (View.setOn_subset_set _ _)) $$ H
  iintro H
  rw [View.readAt_full m.view f inb, hf]
  iapply Hk
  iexists f
  isplitr; · ipureintro; exact hf
  iexact H

/-- A load of a window held by itself. -/
theorem load_win {Q : α → sProp 𝕄} {off off' size : Fin s.rank → ℕ} {inb : ∀ a, off a + size a ≤ s.size a} (h : off = off')
    (inb' : ∀ a, off' a + size a ≤ s.size a) {hl : m.view.LoadsAt (Rect.unit off size inb).toLoadRect} (q : PosShare TreeShare)
    (X : Vec F (Rect.unit off' size inb').shape e) {k : Vec F (Rect.unit off size inb).shape e → P F α} :
    iprop(holds c (m.access (Rect.unit off' size inb')) q X ∗ (holds c (m.access (Rect.unit off' size inb')) q X -∗ Wp c (k X) Q))
      ⊢ Wp c (Prog.lift (.load m (Rect.unit off size inb).toLoadRect hl) >>= k) Q := by
  subst h
  unfold holds
  iintro ⟨⟨%f, %hf, H⟩, Hk⟩
  iapply (wp_load_rect 𝒱₀ (c : Thread nD τ) none Set.univ (m := m) (r := Rect.unit off size inb) (hl := hl) (k := k)
    (S := (m.access (Rect.unit off size inb)).set) (q := q) (f := f) (Finset.Subset.refl _)) $$ H
  iintro H
  rw [hf]
  iapply Hk
  iexists f
  isplitr; · ipureintro; exact hf
  iexact H

/-- A store into a window of a buffer held whole. -/
theorem store_view {Q : α → sProp 𝕄} {off off' size : Fin s.rank → ℕ} {inb : ∀ a, off a + size a ≤ s.size a} (h : off = off')
    {w : Vec F (Rect.unit off size inb).shape e} {hx : (m.access (Rect.unit off size inb)).Stores Finset.univ}
    {hm : Finset.univ = Finset.univ ∨ ∀ a, (Rect.unit off size inb).stride a = 1} (X : Vec F s e) {k : PUnit → P F α} :
    iprop(holds c m.view fullShare X ∗ (holds c m.view fullShare (VecWindow.put X off' size w) -∗ Wp c (k ⟨⟩) Q))
      ⊢ Wp c (Prog.lift (.store m (Rect.unit off size inb) w Finset.univ hx hm) >>= k) Q := by
  unfold holds
  iintro ⟨⟨%f, %hf, H⟩, Hk⟩
  iapply (wp_store_writes₀ 𝒱₀ (c : Thread nD τ) none Set.univ (m := m) (r := Rect.unit off size inb) (w := w) (hx := hx) (hm := hm) (k := k)
    (S := m.view.set) (f := f) (by rw [View.set_slice]; exact View.setOn_subset_set _ _)) $$ H
  iintro H
  iapply Hk
  iexists m.view.writes (Elt F) f [⟨Rect.unit off size inb, w⟩]
  isplitr
  · ipureintro
    rw [View.read_writes_cons_put m.view f inb w [] h, View.writes_nil, hf]
  iexact H

/-- A store over the whole of a buffer. -/
theorem store_full {Q : α → sProp 𝕄} {off : Fin s.rank → ℕ} {inb : ∀ a, off a + s.size a ≤ s.size a}
    {w : Vec F (Rect.unit off s.size inb).shape e} {hx : (m.access (Rect.unit off s.size inb)).Stores Finset.univ}
    {hm : Finset.univ = Finset.univ ∨ ∀ a, (Rect.unit off s.size inb).stride a = 1} (X : Vec F s e) {k : PUnit → P F α} :
    iprop(holds c m.view fullShare X ∗ (holds c m.view fullShare w -∗ Wp c (k ⟨⟩) Q))
      ⊢ Wp c (Prog.lift (.store m (Rect.unit off s.size inb) w Finset.univ hx hm) >>= k) Q := by
  unfold holds
  iintro ⟨⟨%f, %hf, H⟩, Hk⟩
  iapply (wp_store_writes₀ 𝒱₀ (c : Thread nD τ) none Set.univ (m := m) (r := Rect.unit off s.size inb) (w := w) (hx := hx) (hm := hm) (k := k)
    (S := m.view.set) (f := f) (by rw [View.set_slice]; exact View.setOn_subset_set _ _)) $$ H
  iintro H
  iapply Hk
  iexists m.view.writes (Elt F) f [⟨Rect.unit off s.size inb, w⟩]
  isplitr
  · ipureintro
    exact View.read_writes_full m.view f inb w []
  iexact H

/-- A store into a window held by itself. -/
theorem store_win {Q : α → sProp 𝕄} {off off' size : Fin s.rank → ℕ} {inb : ∀ a, off a + size a ≤ s.size a} (h : off = off')
    (inb' : ∀ a, off' a + size a ≤ s.size a)
    {w : Vec F (Rect.unit off size inb).shape e} {hx : (m.access (Rect.unit off size inb)).Stores Finset.univ}
    {hm : Finset.univ = Finset.univ ∨ ∀ a, (Rect.unit off size inb).stride a = 1}
    (X : Vec F (Rect.unit off' size inb').shape e) {k : PUnit → P F α} :
    iprop(holds c (m.access (Rect.unit off' size inb')) fullShare X
        ∗ (holds c (m.access (Rect.unit off' size inb')) fullShare w -∗ Wp c (k ⟨⟩) Q))
      ⊢ Wp c (Prog.lift (.store m (Rect.unit off size inb) w Finset.univ hx hm) >>= k) Q := by
  subst h
  unfold holds
  iintro ⟨⟨%f, %hf, H⟩, Hk⟩
  iapply (wp_store 𝒱₀ (c : Thread nD τ) none Set.univ (m := m) (r := Rect.unit off size inb) (w := w) (Mk := Finset.univ) (hx := hx) (hm := hm) (k := k)
    (S := (m.access (Rect.unit off size inb)).set) (f := f) (View.setOn_subset_set _ _)) $$ H
  iintro H
  iapply Hk
  iexists (m.access (Rect.unit off size inb)).write (Elt F) f w Finset.univ
  isplitr
  · ipureintro
    exact View.read_write_univ _ _
  iexact H

end Local

/-- Contents not chosen are some contents. -/
theorem any_holds {sp : Space} {s : Shape} {e : EltTy} (c : Dev nD) (v : View sig .tc sp s e) :
    any (F := F) c v ⊢ iprop(∃ X, holds (F := F) c v fullShare X) := by
  unfold holds any
  iintro ⟨%f, H⟩
  iexists v.read (Elt F) f
  iexists f
  isplitr; · ipureintro; rfl
  iexact H

/-! ## What every device knows -/

/-- The invariant of every semaphore of the protocol, that every barrier has begun, and the order of the waits. -/
def recs (I : Dev nD → Inp F) (K : GSem nD τ sig → ℕ) : sProp 𝕄 :=
  iprop((bigSep Finset.univ fun c : Dev nD =>
      iprop(cellInv ER (talkRd I) (K (barCell c)) (barCell c) ∗ reached ER (barCell c) 0))
    ∗ (bigSep Finset.univ fun p : Dev nD × Fin 4 × Fin 7 =>
      cellInv ER (talkRd I) (K (dCell p.2.1 p.2.2 p.1)) (dCell p.2.1 p.2.2 p.1))
    ∗ levAts L lv)

instance recs_persistent (I : Dev nD → Inp F) (K : GSem nD τ sig → ℕ) : BI.Persistent (recs I K) := by
  unfold recs; infer_instance

/-- A big conjunction gives any one of its members. -/
theorem at_one {A : Type} [DecidableEq A] {s : Finset A} (Φ : A → sProp 𝕄) {i : A} (hi : i ∈ s) :
    (bigSep s Φ : sProp 𝕄) ⊢ Φ i := bigSep_elim hi

theorem recs_bar (I : Dev nD → Inp F) (K : GSem nD τ sig → ℕ) (c : Dev nD) :
    recs I K ⊢ iprop(cellInv ER (talkRd I) (K (barCell c)) (barCell c) ∗ reached ER (barCell c) 0) := by
  unfold recs
  iintro ⟨H, -, -⟩
  iapply (at_one (fun c : Dev nD =>
      iprop(cellInv ER (talkRd I) (K (barCell c)) (barCell c) ∗ reached ER (barCell c) 0)) (Finset.mem_univ c)) $$ H

theorem recs_dma (I : Dev nD → Inp F) (K : GSem nD τ sig → ℕ) (j : Fin 4) (k : Fin 7) (c : Dev nD) :
    recs I K ⊢ cellInv ER (talkRd I) (K (dCell j k c)) (dCell j k c) := by
  unfold recs
  iintro ⟨-, H, -⟩
  iapply (at_one (fun p : Dev nD × Fin 4 × Fin 7 =>
      cellInv ER (talkRd I) (K (dCell p.2.1 p.2.2 p.1)) (dCell p.2.1 p.2.2 p.1)) (Finset.mem_univ (c, j, k))) $$ H

theorem recs_lev (I : Dev nD → Inp F) (K : GSem nD τ sig → ℕ) : recs I K ⊢ levAts L lv := by
  unfold recs
  iintro ⟨-, -, H⟩
  iexact H

/-- The core owes `O`, whatever it has waited for. -/
def Owes (c : Dev nD) (O : CellTallies nD τ sig Unit) : sProp 𝕄 := iprop(∃ W, owes (c : Thread nD τ) O W)

/-! ## The barrier -/

section Steps

variable {α : Type} (I : Dev nD → Inp F) (K : GSem nD τ sig → ℕ) (c : Dev nD)

/-- What the signal to peer `k` spends: its duty, and the two slots the peer will fill. -/
def sigTodo (k : Fin 7) : sProp 𝕄 :=
  iprop(dutyTok ER (barCell (fwd k c)) 0 k.rev ∗ any c (stSlot k.rev) ∗ any c (rSlot k.rev)
    ∗ reached ER (dCell 1 k.rev c) 0 ∗ reached ER (dCell 3 k.rev c) 0)

/-- The signal to peer `k`. -/
theorem signal_step {Q : α → sProp 𝕄} (k : Fin 7) {d : Dev nD} (hd : d = fwd k c) (O : CellTallies nD τ sig Unit) {kt : PUnit → P F α} :
    iprop(recs I K ∗ Owes c (O + owedBar c k.val) ∗ sigTodo c k ∗ (Owes c (O + owedBar c (k.val + 1)) -∗ Wp c (kt ⟨⟩) Q))
      ⊢ Wp c (semSignalWord d barS 1#32 >>= kt) Q := by
  subst hd
  unfold Owes sigTodo
  iintro ⟨#HR, ⟨%W, HO⟩, ⟨Ht, Hs, Hr, #H1, #H3⟩, Hk⟩
  have hO : O + owedBar c k.val = O + owedBar c (k.val + 1) + tallyAt (barCell (fwd k c)) () 1 := by
    rw [show owedBar c k.val = _ from due_step _ _ k, add_assoc]
  ihave #HI := (recs_bar I K (fwd k c)) $$ HR
  icases HI with ⟨#HI, #Hre⟩
  iapply (Rounds.wp_signal 𝒱₀ ER (talkRd I) (c : Thread nD τ) none (dst := (fwd k c : Thread nD τ)) (sem := barS) (r := 0) (d := k.rev)
      (κ := K (barCell (fwd k c))) (k := kt) (k' := 1)
      (by rw [duties_bar]; exact Finset.mem_univ _) (amount_bar I (fwd k c) k.rev) () (O + owedBar c (k.val + 1))
      hO) $$ [HO Ht Hs Hr]
  · isplitr; · iexact HI
    isplitl [HO]; · iexact HO
    isplitl [Ht]; · iexact Ht
    isplitl [Hs Hr]
    · rw [payload_bar]; unfold barPay; rw [fwd_rev]
      isplitl [Hs]; · iexact Hs
      isplitl [Hr]; · iexact Hr
      isplitr; · iexact H1
      iexact H3
    · iexact Hre
  iintro HO
  iapply Hk
  iexists W; iexact HO

/-- The wait for all seven peers. -/
theorem barrier_step {Q : α → sProp 𝕄} {kt : PUnit → P F α} :
    iprop(recs I K ∗ Owes c (owedTwo c 0 + owedOne c 0) ∗ cred (tallyAt (barCell c) () 7) ∗ atPos ER (barCell c) 0 ∅ 0
        ∗ ((Owes c (owedTwo c 0 + owedOne c 0) ∗ atPos ER (barCell c) 1 ∅ 0 ∗ bigSep Finset.univ fun k => barPay k c) -∗ Wp c (kt ⟨⟩) Q))
      ⊢ Wp c (semWaitWord barS 7#32 >>= kt) Q := by
  unfold Owes
  iintro ⟨#HR, ⟨%W, HO⟩, Hc, Ha, Hk⟩
  ihave #HI := (recs_bar I K c) $$ HR
  icases HI with ⟨#HI, -⟩
  ihave #Hl := (recs_lev I K) $$ HR
  iapply (Rounds.wp_wait_rest_token 𝒱₀ ER (talkRd I) (c : Thread nD τ) none (κ := K (barCell c)) (k := kt)
      (wpE_semWait_eq 𝒱₀ (c : Thread nD τ) none Set.univ) (Set.mem_univ _) () (O := owedTwo c 0 + owedOne c 0) (W := W) (R := 0) (m := 0) (T := ∅)
      (k' := 7) ((Nat.zero_add 7).trans (expect_bar I c).symm)) $$ [Hc HO Ha]
  · isplitr; · iexact HI
    isplitl [Hc]; · iexact Hc
    isplitl [HO]; · iexact HO
    isplitr; · iapply (mayWait_bar c); iexact Hl
    iexact Ha
  iintro ⟨HO, Ha, -, Hp⟩
  ihave Hp := (Entails.of_eq (rest_bar I c)) $$ Hp
  iapply Hk
  isplitl [HO]; · iexists _; iexact HO
  isplitl [Ha]; · iexact Ha
  iexact Hp

/-! ## Waits for copies -/

/-- A wait for a copy, owing `O`. -/
theorem wait_step {Q : α → sProp 𝕄} (j : Fin 4) (k : Fin 7) {sm : DmaSem sig} (hs : sm = dsem j k) (O : CellTallies nD τ sig Unit)
    (hM : (levAts L lv : sProp 𝕄) ⊢ MayWait (c : Thread nD τ) (.dma (dsem j k)) () O)
    {sp sp' : Space} {s s' : Shape} {e e' : EltTy} {src : Memref sig .tc sp' s' e'} {dst : Memref sig .tc sp s e}
    {h1 : src.view.WordExact} {h2 : dst.view.WordExact} (hN : dst.view.dmaCredit = N) {kt : PUnit → P F α} :
    iprop(recs I K ∗ Owes c O ∗ cred (tallyAt (dCell j k c) () N) ∗ atPos ER (dCell j k c) 0 ∅ 0
        ∗ ((Owes c O ∗ atPos ER (dCell j k c) 1 ∅ 0 ∗ dmaPay I j k c) -∗ Wp c (kt ⟨⟩) Q))
      ⊢ Wp c (Prog.lift (.waitDma2 sm src dst h1 h2) >>= kt) Q := by
  subst hs
  unfold Owes
  iintro ⟨#HR, ⟨%W, HO⟩, Hc, Ha, Hk⟩
  ihave #HI := (recs_dma I K j k c) $$ HR
  ihave #Hl := (recs_lev I K) $$ HR
  iapply (Rounds.wp_wait_rest_token 𝒱₀ ER (talkRd I) (c : Thread nD τ) none (κ := K (dCell j k c)) (k := kt)
      (wpE_waitDma2_eq (src := src) (dst := dst) (hsrc := h1) (hdst := h2) 𝒱₀ (c : Thread nD τ) none Set.univ) (Set.mem_univ _) () (O := O) (W := W) (R := 0) (m := 0) (T := ∅)
      (by rw [hN]; exact (Nat.zero_add _).trans (expect_dma I c j k).symm)) $$ [Hc HO Ha]
  · isplitr; · iexact HI
    isplitl [Hc]; · rw [hN]; iexact Hc
    isplitl [HO]; · iexact HO
    isplitr; · iapply hM; iexact Hl
    iexact Ha
  iintro ⟨HO, Ha, -, Hp⟩
  ihave Hp := (Entails.of_eq (rest_dma I c j k)) $$ Hp
  iapply Hk
  isplitl [HO]; · iexists _; iexact HO
  isplitl [Ha]; · iexact Ha
  iexact Hp

/-- Nothing is owed: any wait may be made. -/
theorem mayWait_none (sm : SemLoc sig) : (levAts L lv : sProp 𝕄) ⊢ MayWait (c : Thread nD τ) sm () 0 := by
  rw [MayWait_zero]
  iintro -
  iempintro

/-! ## Copies to a peer -/

/-- A slot reads, as it lies in the buffer, what a copy wrote through its squeezed view. -/
theorem slot_read (M : Memref sig .tc .vmem S8x128x1024 .bf16) {off : Fin 3 → ℕ} (inb : ∀ a, off a + S1x128x1024.size a ≤ S8x128x1024.size a)
    (hp : ∀ a, (Rect.unit (s := S8x128x1024) off S1x128x1024.size inb).stride a = 1)
    (hq : S1x128x1024.Squeezes S128x1024)
    (f : (((M.slice (Rect.unit off S1x128x1024.size inb) hp).squeeze S128x1024 hq).view.ty.Contents (Elt F))) (X : Vec F S128x1024 .bf16) :
    (M.access (Rect.unit off S1x128x1024.size inb)).read (Elt F)
        (((M.slice (Rect.unit off S1x128x1024.size inb) hp).squeeze S128x1024 hq).view.write (Elt F) f X Finset.univ)
      = unsq X := by
  have h := View.read_write_univ (v := ((M.slice (Rect.unit off S1x128x1024.size inb) hp).squeeze S128x1024 hq).view) (Val := Elt F) f X
  have h' : shapeCast S128x1024 ((M.access (Rect.unit off S1x128x1024.size inb)).read (Elt F)
        (((M.slice (Rect.unit off S1x128x1024.size inb) hp).squeeze S128x1024 hq).view.write (Elt F) f X Finset.univ)) hq.numel_eq = X := h
  exact ((shapeCast_shapeCast _ hq.numel_eq slotCasts).symm).trans (congrArg unsq h')

/-- What a copy to peer `k` spends beside its source: its two duties, and the peer's slot. -/
def sendTodo (j j' : Fin 4) (M : Memref sig .tc .vmem S8x128x1024 .bf16) (k : Fin 7) : sProp 𝕄 :=
  iprop(any (fwd k c) (M.access (slotRect k)) ∗ dutyTok ER (dCell j k c) 0 0 ∗ reached ER (dCell j k c) 0
    ∗ dutyTok ER (dCell j' k (fwd k c)) 0 0 ∗ reached ER (dCell j' k (fwd k c)) 0)

/-- A copy of a block to the slot of peer `k`. -/
theorem send_step {Q : α → sProp 𝕄} (j j' : Fin 4) (k : Fin 7) {d : Dev nD} (hd : d = fwd k c)
    {s1 s2 : DmaSem sig} (hs1 : s1 = dsem j k) (hs2 : s2 = dsem j' k)
    (M : Memref sig .tc .vmem S8x128x1024 .bf16) {off : Fin 3 → ℕ} {inb : ∀ a, off a + S1x128x1024.size a ≤ S8x128x1024.size a}
    (ho : off = slotOff k.succ) {hp : ∀ a, (Rect.unit (s := S8x128x1024) off S1x128x1024.size inb).stride a = 1}
    {hq : (Rect.unit (s := S8x128x1024) off S1x128x1024.size inb).shape.Squeezes S128x1024}
    {src : Memref sig .tc .vmem S128x1024 .bf16} (q : PosShare TreeShare) (X : Vec F S128x1024 .bf16)
    {hsc : ((M.slice (Rect.unit off S1x128x1024.size inb) hp).squeeze S128x1024 hq).view.ref.isScScratch = false}
    {hsrc : src.view.WordExact} {hdst : ((M.slice (Rect.unit off S1x128x1024.size inb) hp).squeeze S128x1024 hq).view.WordExact}
    {hsem : DmaTarget.Typed .vmem (.dma s2)
      (.remote (Dev.tc d) ((M.slice (Rect.unit off S1x128x1024.size inb) hp).squeeze S128x1024 hq) (.dma s1) hsc)}
    (hN : ((M.slice (Rect.unit off S1x128x1024.size inb) hp).squeeze S128x1024 hq).view.amount (.dma s2) = N)
    (g : ℕ → CellTallies nD τ sig Unit) (hg : g k.val = g (k.val + 1) + tallyAt (dCell j' k (fwd k c)) () N)
    (hpay₁ : holds c src.view q X ⊢ dmaPay I j k c)
    (hpay₂ : holds (fwd k c) (M.access (slotRect k)) fullShare (unsq X) ⊢ dmaPay I j' k (fwd k c)) {kt : PUnit → P F α} :
    iprop(recs I K ∗ Owes c (g k.val) ∗ holds c src.view q X ∗ sendTodo c j j' M k
        ∗ ((Owes c (g (k.val + 1)) ∗ cred (tallyAt (dCell j k c) () N)) -∗ Wp c (kt ⟨⟩) Q))
      ⊢ Wp c (Prog.lift (.enqueueDma src
          (.remote (Dev.tc d) ((M.slice (Rect.unit off S1x128x1024.size inb) hp).squeeze S128x1024 hq) (.dma s1) hsc)
          (.dma s2) hsrc hdst hsem) >>= kt) Q := by
  subst hd hs1 hs2 ho
  unfold Owes sendTodo any
  iintro ⟨#HR, ⟨%W, HO⟩, HS, ⟨⟨%fd, HD⟩, Ht1, #Hr1, Ht2, #Hr2⟩, Hk⟩
  ihave #HI1 := (recs_dma I K j k c) $$ HR
  ihave #HI2 := (recs_dma I K j' k (fwd k c)) $$ HR
  unfold holds at hpay₁ hpay₂ ⊢
  icases HS with ⟨%fs, %hfs, HS⟩
  have hp1 : (src.view.loc (c : Thread nD τ) ↦[src.view.set]{q} fs : sProp 𝕄) ⊢ (talkRd I).payload (dCell j k c) 0 0 := by
    rw [payload_dma]
    refine BIBase.Entails.trans ?_ hpay₁
    iintro H
    iexists fs
    isplitr; · ipureintro; exact hfs
    iexact H
  have hp2 : (((M.slice (Rect.unit (slotOff k.succ) S1x128x1024.size inb) hp).squeeze S128x1024 hq).view.loc (fwd k c : Thread nD τ)
      ↦[((M.slice (Rect.unit (slotOff k.succ) S1x128x1024.size inb) hp).squeeze S128x1024 hq).view.set]{fullShare}
      (((M.slice (Rect.unit (slotOff k.succ) S1x128x1024.size inb) hp).squeeze S128x1024 hq).view.write (Elt F) fd
        (src.view.read (Elt F) fs) Finset.univ) : sProp 𝕄) ⊢ (talkRd I).payload (dCell j' k (fwd k c)) 0 0 := by
    rw [payload_dma]
    refine BIBase.Entails.trans ?_ hpay₂
    rw [show ((M.slice (Rect.unit (slotOff k.succ) S1x128x1024.size inb) hp).squeeze S128x1024 hq).view.set
      = (M.access (slotRect k)).set from View.set_reshape _ _]
    iintro H
    iexists _
    isplitr
    rotate_left
    · iexact H
    · ipureintro
      rw [hfs]
      exact slot_read M inb hp hq fd X
  iapply (Rounds.wp_send_pointsTo 𝒱₀ ER (talkRd I) (c : Thread nD τ) none (c' := (fwd k c : Thread nD τ)) (src := src)
      (dst := (M.slice (Rect.unit (slotOff k.succ) S1x128x1024.size inb) hp).squeeze S128x1024 hq)
      (sS := .dma (dsem j k)) (sem := .dma (dsem j' k)) (q := q) (fs := fs) (κ₁ := K (dCell j k c)) (κ₂ := K (dCell j' k (fwd k c)))
      (r₁ := 0) (r₂ := 0) (d₁ := 0) (d₂ := 0) (fd := fd) (k := kt) (hsc := hsc) (hsrc := hsrc) (hdst := hdst) (hsem := hsem)
      (by rw [duties_dma]; exact Finset.mem_singleton_self _) (by rw [duties_dma]; exact Finset.mem_singleton_self _)
      () () N hN (amount_dma I c j k 0) (amount_dma I (fwd k c) j' k 0) (g (k.val + 1)) hg (W := W)
      hp1 hp2) $$ [HS HD HO Ht1 Ht2]
  · isplitr; · iexact HI1
    isplitr; · iexact HI2
    isplitl [HS]; · iexact HS
    isplitl [HD]
    · iapply (Entails.of_eq (congrArg (fun S => (M.view.loc (fwd k c : Thread nD τ) ↦[S]{fullShare} fd : sProp 𝕄))
        (View.set_reshape (M.access (slotRect k)) _).symm)) $$ HD
    isplitl [HO]; · iexact HO
    isplitl [Ht1]; · iexact Ht1
    isplitr; · iexact Hr1
    isplitl [Ht2]; · iexact Ht2
    iexact Hr2
  iintro ⟨Hc, HO⟩
  iapply Hk
  isplitl [HO]; · iexists W; iexact HO
  iexact Hc

end Steps

end Cert.KernelIdeal.Run
-- ==== Proof.KMoves.lean ====
/- The moves the kernel repeats, each stated once: one head of the context, one block multiplied and sent, one
   copy waited for, one block of the result stored. -/
module

public import proofs.«01_k».proof.Proof.KSteps

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

/-! ## Offsets and semaphores as the program spells them -/

theorem off1_eq (c : Dev nD) (k : Fin 7) : k0_off1 c (BitVec.ofNat 32 (k.val + 1)) = rowOff (fwd k c) := by revert c k; decide
theorem off2_eq (c : Dev nD) (k : Fin 7) : k0_off2 c (BitVec.ofNat 32 (k.val + 1)) = rowOff (fwd k c) := by revert c k; decide
theorem off3_eq (c : Dev nD) : k0_off3 c = rowOff c := by revert c; decide
theorem off4_eq (c : Dev nD) (k : Fin 7) : k0_off4 c (BitVec.ofNat 32 (k.val + 1)) = rowOff (bwd k c) := by revert c k; decide

/-! ## The context, head by head -/

abbrev cM : Memref sig .tc .vmem S1024x1024 .f32 := Memref.whole cc0_scratch0

/-- The context buffer with its first `n` heads in place. -/
def ctxAt (c : Dev nD) (a : Inp F) (n : ℕ) : sProp 𝕄 :=
  iprop(∃ X : Vec F S1024x1024 .f32, ⌜∀ h : Fin 8, h.val < n → VecWindow.window X (colOff h) S1024x128.size (colInb h) = headVal a h⌝
    ∗ holds c cM.view fullShare X)

section Local

variable {α : Type} (c : Dev nD) (a : Inp F)

theorem ctx_begin (X : Vec F S1024x1024 .f32) : holds c cM.view fullShare X ⊢ ctxAt c a 0 := by
  unfold ctxAt
  iintro H
  iexists X
  isplitr; · ipureintro; exact fun h hh => absurd hh (Nat.not_lt_zero _)
  iexact H

theorem ctx_look {Q : α → sProp 𝕄} (n : ℕ) {off : Fin 2 → ℕ} {inb : ∀ d, off d + S1024x128.size d ≤ S1024x1024.size d}
    {hl : cM.view.LoadsAt (Rect.unit (s := S1024x1024) off S1024x128.size inb).toLoadRect} {k : Vec F S1024x128 .f32 → P F α} :
    iprop(ctxAt c a n ∗ (ctxAt c a n -∗ ∀ w, Wp c (k w) Q))
      ⊢ Wp c (Prog.lift (.load cM (Rect.unit (s := S1024x1024) off S1024x128.size inb).toLoadRect hl) >>= k) Q := by
  unfold ctxAt
  iintro ⟨⟨%X, %hX, H⟩, Hk⟩
  iapply (load_view c (m := cM) (rfl : off = off) inb fullShare X)
  isplitl [H]; · iexact H
  iintro H
  ihave Hk := Hk $$ [H]
  · iexists X
    isplitr; · ipureintro; exact hX
    iexact H
  iapply Hk

theorem ctx_store {Q : α → sProp 𝕄} (h : Fin 8) {off : Fin 2 → ℕ} {inb : ∀ d, off d + S1024x128.size d ≤ S1024x1024.size d}
    (ho : off = colOff h) {w : Vec F S1024x128 .f32} (hw : w = headVal a h)
    {hx : (cM.access (Rect.unit (s := S1024x1024) off S1024x128.size inb)).Stores Finset.univ}
    {hm : Finset.univ = Finset.univ ∨ ∀ d, (Rect.unit (s := S1024x1024) off S1024x128.size inb).stride d = 1} {k : PUnit → P F α} :
    iprop(ctxAt c a h.val ∗ (ctxAt c a (h.val + 1) -∗ Wp c (k ⟨⟩) Q))
      ⊢ Wp c (Prog.lift (.store cM (Rect.unit (s := S1024x1024) off S1024x128.size inb) w Finset.univ hx hm) >>= k) Q := by
  subst ho hw
  unfold ctxAt
  iintro ⟨⟨%X, %hX, H⟩, Hk⟩
  iapply (store_view c (m := cM) (rfl : colOff h = colOff h) X)
  isplitl [H]; · iexact H
  iintro H
  iapply Hk
  iexists _
  isplitr
  rotate_left
  · iexact H
  ipureintro
  intro i hi
  by_cases e : i = h
  · subst e; exact VecWindow.window_put_same _ _ _ _ _
  · have hne : i.val ≠ h.val := fun x => e (Fin.ext x)
    rw [VecWindow.window_put_of_disjoint (s := S1024x1024) X (colOff h) S1024x128.size (colOff i) S1024x128.size (colInb i) _ 1
      (by show 128 * i.val + 128 ≤ 128 * h.val ∨ 128 * h.val + 128 ≤ 128 * i.val; omega)]
    exact hX i (by omega)

theorem ctx_done : ctxAt c a 8 ⊢ holds c cM.view fullShare (ctxOf a) := by
  unfold ctxAt
  iintro ⟨%X, %hX, H⟩
  have e : X = ctxOf a := by
    funext i
    have h0 : (i 0).val < 1024 := (i 0).isLt
    have h1 : (i 1).val < 1024 := (i 1).isLt
    have key := (hX ⟨(i 1).val / 128, by omega⟩ (by show (i 1).val / 128 < 8; omega)).trans (ctxOf_col a _).symm
    have := congrFun key (ix2 (s := S1024x128.size) (i 0) ⟨(i 1).val % 128, Nat.mod_lt _ (by decide)⟩)
    have ei : (Rect.unit (s := S1024x1024) (colOff ⟨(i 1).val / 128, by omega⟩) S1024x128.size (colInb _)).emb
        (ix2 (s := S1024x128.size) (i 0) ⟨(i 1).val % 128, Nat.mod_lt _ (by decide)⟩) = i :=
      ext2 (s := S1024x1024.size) ((colEmb0 _ _).trans rfl) ((colEmb1 _ _).trans (by
        show 128 * ((i 1).val / 128) + (i 1).val % 128 = _; omega))
    unfold VecWindow.window at this
    rw [ei] at this
    exact this
  rw [e]
  iexact H

/-! ## The result, block by block -/

/-- The result buffer with this device's own block and the blocks of its `n` nearest predecessors in place. -/
def outAt (I : Dev nD → Inp F) (m : Memref sig .tc .vmem S1024x1024 .f32) (n : ℕ) : sProp 𝕄 :=
  iprop(∃ X : Vec F S1024x1024 .f32, ⌜rowsOf X c = totalOf I c ∧ ∀ k : Fin 7, k.val < n → rowsOf X (bwd k c) = outRow I c (bwd k c)⌝
    ∗ holds c m.view fullShare X)

theorem rowsOf_put (X : Vec F S1024x1024 .f32) (r r' : Fin 8) (w : Vec F S128x1024 .f32) (h : r' ≠ r) :
    rowsOf (VecWindow.put (s := S1024x1024) X (rowOff r) S128x1024.size w) r' = rowsOf X r' := by
  have hne : r'.val ≠ r.val := fun x => h (Fin.ext x)
  exact VecWindow.window_put_of_disjoint (s := S1024x1024) X (rowOff r) S128x1024.size (rowOff r') S128x1024.size (rowInb r') _ 0
    (by show 128 * r'.val + 128 ≤ 128 * r.val ∨ 128 * r.val + 128 ≤ 128 * r'.val; omega)

theorem rowsOf_put_same (X : Vec F S1024x1024 .f32) (r : Fin 8) (w : Vec F S128x1024 .f32) :
    rowsOf (VecWindow.put (s := S1024x1024) X (rowOff r) S128x1024.size w) r = w :=
  VecWindow.window_put_same (s := S1024x1024) X (rowOff r) S128x1024.size (rowInb r) w

variable (I : Dev nD → Inp F) {m : Memref sig .tc .vmem S1024x1024 .f32}

theorem out_own {Q : α → sProp 𝕄} {off : Fin 2 → ℕ} {inb inb' : ∀ d, off d + S128x1024.size d ≤ S1024x1024.size d} (ho : off = rowOff c)
    {hl : m.view.LoadsAt (Rect.unit (s := S1024x1024) off S128x1024.size inb).toLoadRect}
    {hx : (m.access (Rect.unit (s := S1024x1024) off S128x1024.size inb')).Stores Finset.univ}
    {hm : Finset.univ = Finset.univ ∨ ∀ d, (Rect.unit (s := S1024x1024) off S128x1024.size inb').stride d = 1}
    {w : Vec F S128x1024 .f32} (hw : w = totalOf I c) (X : Vec F S1024x1024 .f32) {k : PUnit → P F α} :
    iprop(holds c m.view fullShare X ∗ (outAt c I m 0 -∗ Wp c (k ⟨⟩) Q))
      ⊢ Wp c (Prog.lift (.load m (Rect.unit (s := S1024x1024) off S128x1024.size inb).toLoadRect hl) >>= fun _ =>
          Prog.lift (.store m (Rect.unit (s := S1024x1024) off S128x1024.size inb') w Finset.univ hx hm) >>= k) Q := by
  subst ho hw
  unfold outAt
  iintro ⟨H, Hk⟩
  iapply (load_view c (m := m) (rfl : rowOff c = rowOff c) inb fullShare X)
  isplitl [H]; · iexact H
  iintro H
  iapply (store_view c (m := m) (rfl : rowOff c = rowOff c) X)
  isplitl [H]; · iexact H
  iintro H
  iapply Hk
  iexists _
  isplitr
  rotate_left
  · iexact H
  ipureintro
  exact ⟨rowsOf_put_same X c _, fun k hk => absurd hk (Nat.not_lt_zero _)⟩

theorem out_store {Q : α → sProp 𝕄} (k : Fin 7) {off : Fin 2 → ℕ} {inb inb' : ∀ d, off d + S128x1024.size d ≤ S1024x1024.size d}
    (ho : off = rowOff (bwd k c))
    {hl : m.view.LoadsAt (Rect.unit (s := S1024x1024) off S128x1024.size inb).toLoadRect}
    {hx : (m.access (Rect.unit (s := S1024x1024) off S128x1024.size inb')).Stores Finset.univ}
    {hm : Finset.univ = Finset.univ ∨ ∀ d, (Rect.unit (s := S1024x1024) off S128x1024.size inb').stride d = 1}
    {w : Vec F S128x1024 .f32} (hw : w = k0_pay31 (gotVal I k c)) {kt : PUnit → P F α} :
    iprop(outAt c I m k.val ∗ (outAt c I m (k.val + 1) -∗ Wp c (kt ⟨⟩) Q))
      ⊢ Wp c (Prog.lift (.load m (Rect.unit (s := S1024x1024) off S128x1024.size inb).toLoadRect hl) >>= fun _ =>
          Prog.lift (.store m (Rect.unit (s := S1024x1024) off S128x1024.size inb') w Finset.univ hx hm) >>= kt) Q := by
  subst ho hw
  unfold outAt
  iintro ⟨⟨%X, %hX, H⟩, Hk⟩
  iapply (load_view c (m := m) (rfl : rowOff (bwd k c) = rowOff (bwd k c)) inb fullShare X)
  isplitl [H]; · iexact H
  iintro H
  iapply (store_view c (m := m) (rfl : rowOff (bwd k c) = rowOff (bwd k c)) X)
  isplitl [H]; · iexact H
  iintro H
  iapply Hk
  iexists _
  isplitr
  rotate_left
  · iexact H
  ipureintro
  refine ⟨(rowsOf_put X _ _ _ (bwd_ne c k).symm).trans hX.1, fun i hi => ?_⟩
  by_cases e : i = k
  · subst e
    refine (rowsOf_put_same X _ _).trans ?_
    unfold outRow; rw [if_neg (bwd_ne c i)]; rfl
  · have hne : i.val ≠ k.val := fun x => e (Fin.ext x)
    exact (rowsOf_put X _ _ _ (fun x => e (bwd_inj c x))).trans (hX.2 i (by omega))

theorem bwd_all (r : Dev nD) : r = c ∨ ∃ k, r = bwd k c := by revert c r; decide

theorem out_done : outAt c I m 7 ⊢ holds c m.view fullShare (outOf I c) := by
  unfold outAt
  iintro ⟨%X, %hX, H⟩
  have hr : ∀ r : Fin 8, rowsOf X r = outRow I c r := fun r => by
    rcases bwd_all c r with rfl | ⟨k, rfl⟩
    · rw [hX.1]; unfold outRow; rw [if_pos rfl]
    · exact hX.2 k k.isLt
  have e : X = outOf I c := by
    funext i
    have h0 : (i 0).val < 1024 := (i 0).isLt
    have h1 : (i 1).val < 1024 := (i 1).isLt
    have key := (hr ⟨(i 0).val / 128, by omega⟩).trans (rowsOf_assemble (F := F) (e := .f32) (outRow I c) _).symm
    have := congrFun key (ix2 (s := S128x1024.size) ⟨(i 0).val % 128, Nat.mod_lt _ (by decide)⟩ (i 1))
    have ei : (Rect.unit (s := S1024x1024) (rowOff ⟨(i 0).val / 128, by omega⟩) S128x1024.size (rowInb _)).emb
        (ix2 (s := S128x1024.size) ⟨(i 0).val % 128, Nat.mod_lt _ (by decide)⟩ (i 1)) = i :=
      ext2 (s := S1024x1024.size) ((rowEmb0 _ _).trans (by
        show 128 * ((i 0).val / 128) + (i 0).val % 128 = _; omega)) ((rowEmb1 _ _).trans rfl)
    unfold rowsOf VecWindow.window at this
    rw [ei] at this
    exact this
  rw [e]
  iexact H

end Local

/-! ## One block multiplied and sent -/

section Talk

variable {α : Type} (I : Dev nD → Inp F) (K : GSem nD τ sig → ℕ) (c : Dev nD)

/-- The signals to the peers from the `n`-th on are still to be given. -/
abbrev sigs (n : ℕ) : sProp 𝕄 := prog (fun _ => iprop(emp)) (sigTodo c) n

theorem sig_move {Q : α → sProp 𝕄} (k : Fin 7) {d : Dev nD} (hd : d = fwd k c) {kt : PUnit → P F α} :
    iprop(recs I K ∗ Owes c (owedTwo c 0 + owedOne c 0 + owedBar c k.val) ∗ sigs c k.val
        ∗ ((Owes c (owedTwo c 0 + owedOne c 0 + owedBar c (k.val + 1)) ∗ sigs c (k.val + 1)) -∗ Wp c (kt ⟨⟩) Q))
      ⊢ Wp c (semSignalWord d barS 1#32 >>= kt) Q := by
  iintro ⟨#HR, HO, Hs, Hk⟩
  ihave Hs := (prog_step _ _ k) $$ Hs
  icases Hs with ⟨Ht, Hs⟩
  iapply (signal_step I K c k hd)
  isplitr; · iexact HR
  isplitl [HO]; · iexact HO
  isplitl [Ht]; · iexact Ht
  iintro HO
  iapply Hk
  isplitl [HO]; · iexact HO
  iapply Hs
  iempintro

/-- Peer `k` of the first exchange: its block of rows to fill, and what the copy to it spends; -/
def oneTodo (k : Fin 7) : sProp 𝕄 := iprop(any c (pRow (fwd k c)) ∗ sendTodo c 0 1 stM k)
/-- the copy begun. -/
def oneDone (k : Fin 7) : sProp 𝕄 := cred (tallyAt (dCell 0 k c) () N)
abbrev ones (n : ℕ) : sProp 𝕄 := prog (oneDone c) (oneTodo c) n
/-- The block of peer `k` is filled and its copy not begun. -/
def oneHalf (k : Fin 7) : sProp 𝕄 :=
  iprop(holds c (pRow (fwd k c)) fullShare (partVal (I c) (fwd k c)) ∗ sendTodo c 0 1 stM k ∗ (oneDone c k -∗ ones c (k.val + 1)))

theorem part_move {Q : α → sProp 𝕄} (k : Fin 7) {off : Fin 2 → ℕ} (ho : off = rowOff (fwd k c))
    {inb1 inb2 inb3 : ∀ d, off d + S128x1024.size d ≤ S1024x1024.size d} {m : Memref sig .tc .vmem S1024x1024 .f32}
    {off4 : Fin 2 → ℕ} {inb4 : ∀ d, off4 d + S1024x1024.size d ≤ S1024x1024.size d}
    {hl1 : cM.view.LoadsAt (Rect.unit (s := S1024x1024) off S128x1024.size inb1).toLoadRect}
    {hl4 : m.view.LoadsAt (Rect.unit (s := S1024x1024) off4 S1024x1024.size inb4).toLoadRect}
    {hl2 : pM.view.LoadsAt (Rect.unit (s := S1024x1024) off S128x1024.size inb2).toLoadRect}
    {hx : (pM.access (Rect.unit (s := S1024x1024) off S128x1024.size inb3)).Stores Finset.univ}
    {hm : Finset.univ = Finset.univ ∨ ∀ d, (Rect.unit (s := S1024x1024) off S128x1024.size inb3).stride d = 1} {kt : PUnit → P F α} :
    iprop(holds c cM.view fullShare (ctxOf (I c)) ∗ holds c m.view fullShare (I c).wo ∗ ones c k.val
        ∗ ((holds c cM.view fullShare (ctxOf (I c)) ∗ holds c m.view fullShare (I c).wo ∗ oneHalf I c k) -∗ Wp c (kt ⟨⟩) Q))
      ⊢ Wp c (Prog.lift (.load cM (Rect.unit (s := S1024x1024) off S128x1024.size inb1).toLoadRect hl1) >>= fun v =>
          Prog.lift (.load m (Rect.unit (s := S1024x1024) off4 S1024x1024.size inb4).toLoadRect hl4) >>= fun w =>
          Prog.lift (.load pM (Rect.unit (s := S1024x1024) off S128x1024.size inb2).toLoadRect hl2) >>= fun _ =>
          Prog.lift (.store pM (Rect.unit (s := S1024x1024) off S128x1024.size inb3) (k0_pay19 v w) Finset.univ hx hm) >>= kt) Q := by
  subst ho
  iintro ⟨HC, HW, Hp, Hk⟩
  ihave Hp := (prog_step _ _ k) $$ Hp
  icases Hp with ⟨Ht, Hp⟩
  unfold oneTodo
  icases Ht with ⟨Hr, Ht⟩
  ihave Hr := (any_holds c (pRow (fwd k c))) $$ Hr
  icases Hr with ⟨%Y, Hr⟩
  iapply (load_view c (m := cM) (rfl : rowOff (fwd k c) = rowOff (fwd k c)) (rowInb _) fullShare (ctxOf (I c)))
  isplitl [HC]; · iexact HC
  iintro HC
  iapply (load_full c (m := m) fullShare (I c).wo)
  isplitl [HW]; · iexact HW
  iintro HW
  iapply (load_win c (m := pM) (rfl : rowOff (fwd k c) = rowOff (fwd k c)) (rowInb _) fullShare Y)
  isplitl [Hr]; · iexact Hr
  iintro Hr
  iapply (store_win c (m := pM) (rfl : rowOff (fwd k c) = rowOff (fwd k c)) (rowInb _) Y)
  isplitl [Hr]; · iexact Hr
  iintro Hr
  iapply Hk
  isplitl [HC]; · iexact HC
  isplitl [HW]; · iexact HW
  unfold oneHalf
  isplitl [Hr]; · iexact Hr
  isplitl [Ht]; · iexact Ht
  iexact Hp

theorem one_move {Q : α → sProp 𝕄} (k : Fin 7) {off : Fin 2 → ℕ} (ho : off = rowOff (fwd k c))
    {inb : ∀ d, off d + S128x1024.size d ≤ S1024x1024.size d} {hpu : ∀ d, (Rect.unit (s := S1024x1024) off S128x1024.size inb).stride d = 1}
    {d : Dev nD} (hd : d = fwd k c) {s1 s2 : DmaSem sig} (hs1 : s1 = dsem 0 k) (hs2 : s2 = dsem 1 k)
    {off' : Fin 3 → ℕ} {inb' : ∀ x, off' x + S1x128x1024.size x ≤ S8x128x1024.size x} (ho' : off' = slotOff k.succ)
    {hp : ∀ x, (Rect.unit (s := S8x128x1024) off' S1x128x1024.size inb').stride x = 1}
    {hq : (Rect.unit (s := S8x128x1024) off' S1x128x1024.size inb').shape.Squeezes S128x1024}
    {hsc : ((stM.slice (Rect.unit off' S1x128x1024.size inb') hp).squeeze S128x1024 hq).view.ref.isScScratch = false}
    {hsrc : (pM.slice (Rect.unit off S128x1024.size inb) hpu).view.WordExact}
    {hdst : ((stM.slice (Rect.unit off' S1x128x1024.size inb') hp).squeeze S128x1024 hq).view.WordExact}
    {hsem : DmaTarget.Typed .vmem (.dma s2)
      (.remote (Dev.tc d) ((stM.slice (Rect.unit off' S1x128x1024.size inb') hp).squeeze S128x1024 hq) (.dma s1) hsc)} {kt : PUnit → P F α} :
    iprop(recs I K ∗ Owes c (owedTwo c 0 + owedOne c k.val) ∗ oneHalf I c k
        ∗ ((Owes c (owedTwo c 0 + owedOne c (k.val + 1)) ∗ ones c (k.val + 1)) -∗ Wp c (kt ⟨⟩) Q))
      ⊢ Wp c (Prog.lift (.enqueueDma (pM.slice (Rect.unit off S128x1024.size inb) hpu)
          (.remote (Dev.tc d) ((stM.slice (Rect.unit off' S1x128x1024.size inb') hp).squeeze S128x1024 hq) (.dma s1) hsc)
          (.dma s2) hsrc hdst hsem) >>= kt) Q := by
  subst ho
  unfold oneHalf
  iintro ⟨#HR, HO, ⟨Hr, Ht, Hp⟩, Hk⟩
  iapply (send_step I K c 0 1 k hd hs1 hs2 stM ho' (src := pM.slice (Rect.unit (rowOff (fwd k c)) S128x1024.size inb) hpu) fullShare
    (partVal (I c) (fwd k c)) rfl
    (fun n => owedTwo c 0 + owedOne c n)
    (by show owedTwo c 0 + owedOne c k.val = owedTwo c 0 + owedOne c (k.val + 1) + _
        rw [show owedOne c k.val = _ from due_step _ _ k, add_assoc])
    (show holds c (pRow (fwd k c)) fullShare (partVal (I c) (fwd k c)) ⊢ any c (pRow (fwd k c)) from holds_any c _ _)
    (by show _ ⊢ holds (fwd k c) (stSlot k) fullShare (recvVal I k (fwd k c))
        unfold recvVal; rw [bwd_fwd]))
  isplitr; · iexact HR
  isplitl [HO]; · iexact HO
  isplitl [Hr]; · iexact Hr
  isplitl [Ht]; · iexact Ht
  iintro ⟨HO, Hc⟩
  iapply Hk
  isplitl [HO]; · iexact HO
  iapply Hp
  unfold oneDone
  iexact Hc

/-- Peer `k` of the second exchange: its share of the reduced block, and what the copy to it spends; -/
def twoTodo (k : Fin 7) : sProp 𝕄 := iprop(holds c bM.view (lent k) (sentOf I c) ∗ sendTodo c 2 3 rM k)
/-- the copy begun. -/
def twoDone (k : Fin 7) : sProp 𝕄 := cred (tallyAt (dCell 2 k c) () N)
abbrev twos (n : ℕ) : sProp 𝕄 := prog (twoDone c) (twoTodo I c) n

theorem two_move {Q : α → sProp 𝕄} (k : Fin 7)
    {d : Dev nD} (hd : d = fwd k c) {s1 s2 : DmaSem sig} (hs1 : s1 = dsem 2 k) (hs2 : s2 = dsem 3 k)
    {off' : Fin 3 → ℕ} {inb' : ∀ x, off' x + S1x128x1024.size x ≤ S8x128x1024.size x} (ho' : off' = slotOff k.succ)
    {hp : ∀ x, (Rect.unit (s := S8x128x1024) off' S1x128x1024.size inb').stride x = 1}
    {hq : (Rect.unit (s := S8x128x1024) off' S1x128x1024.size inb').shape.Squeezes S128x1024}
    {hsc : ((rM.slice (Rect.unit off' S1x128x1024.size inb') hp).squeeze S128x1024 hq).view.ref.isScScratch = false}
    {hsrc : bM.view.WordExact}
    {hdst : ((rM.slice (Rect.unit off' S1x128x1024.size inb') hp).squeeze S128x1024 hq).view.WordExact}
    {hsem : DmaTarget.Typed .vmem (.dma s2)
      (.remote (Dev.tc d) ((rM.slice (Rect.unit off' S1x128x1024.size inb') hp).squeeze S128x1024 hq) (.dma s1) hsc)} {kt : PUnit → P F α} :
    iprop(recs I K ∗ Owes c (owedTwo c k.val) ∗ twos I c k.val
        ∗ ((Owes c (owedTwo c (k.val + 1)) ∗ twos I c (k.val + 1)) -∗ Wp c (kt ⟨⟩) Q))
      ⊢ Wp c (Prog.lift (.enqueueDma bM
          (.remote (Dev.tc d) ((rM.slice (Rect.unit off' S1x128x1024.size inb') hp).squeeze S128x1024 hq) (.dma s1) hsc)
          (.dma s2) hsrc hdst hsem) >>= kt) Q := by
  iintro ⟨#HR, HO, Hp, Hk⟩
  ihave Hp := (prog_step _ _ k) $$ Hp
  icases Hp with ⟨Ht, Hp⟩
  unfold twoTodo
  icases Ht with ⟨Hr, Ht⟩
  iapply (send_step I K c 2 3 k hd hs1 hs2 rM ho' (src := bM) (lent k) (sentOf I c) rfl
    (fun n => owedTwo c n) (due_step _ _ k)
    (show holds c bM.view (lent k) (sentOf I c) ⊢ holds c bM.view (lent k) (sentOf I c) from BIBase.Entails.rfl)
    (by show _ ⊢ holds (fwd k c) (rSlot k) fullShare (gotVal I k (fwd k c))
        unfold gotVal; rw [bwd_fwd]))
  isplitr; · iexact HR
  isplitl [HO]; · iexact HO
  isplitl [Hr]; · iexact Hr
  isplitl [Ht]; · iexact Ht
  iintro ⟨HO, Hc⟩
  iapply Hk
  isplitl [HO]; · iexact HO
  iapply Hp
  unfold twoDone
  iexact Hc

/-! ## One copy waited for -/

/-- The copy of peer `k` in family `j` is still to be waited for; -/
def waitTodo (j : Fin 4) (k : Fin 7) : sProp 𝕄 := iprop(cred (tallyAt (dCell j k c) () N) ∗ atPos ER (dCell j k c) 0 ∅ 0)
/-- it has landed. -/
def waitDone (j : Fin 4) (k : Fin 7) : sProp 𝕄 := iprop(dmaPay I j k c ∗ atPos ER (dCell j k c) 1 ∅ 0)
abbrev waits (j : Fin 4) (n : ℕ) : sProp 𝕄 := prog (waitDone I c j) (waitTodo c j) n

theorem wait_move {Q : α → sProp 𝕄} (j : Fin 4) (k : Fin 7) {sm : DmaSem sig} (hs : sm = dsem j k) (O : CellTallies nD τ sig Unit)
    (hM : (levAts L lv : sProp 𝕄) ⊢ MayWait (c : Thread nD τ) (.dma (dsem j k)) () O)
    {sp sp' : Space} {s s' : Shape} {e e' : EltTy} {src : Memref sig .tc sp' s' e'} {dst : Memref sig .tc sp s e}
    {h1 : src.view.WordExact} {h2 : dst.view.WordExact} (hN : dst.view.dmaCredit = N) {kt : PUnit → P F α} :
    iprop(recs I K ∗ Owes c O ∗ waits I c j k.val ∗ ((Owes c O ∗ waits I c j (k.val + 1)) -∗ Wp c (kt ⟨⟩) Q))
      ⊢ Wp c (Prog.lift (.waitDma2 sm src dst h1 h2) >>= kt) Q := by
  iintro ⟨#HR, HO, Hw, Hk⟩
  ihave Hw := (prog_step _ _ k) $$ Hw
  icases Hw with ⟨Ht, Hw⟩
  unfold waitTodo
  icases Ht with ⟨Hc, Ha⟩
  iapply (wait_step I K c j k hs O hM hN)
  isplitr; · iexact HR
  isplitl [HO]; · iexact HO
  isplitl [Hc]; · iexact Hc
  isplitl [Ha]; · iexact Ha
  iintro ⟨HO, Ha, Hp⟩
  iapply Hk
  isplitl [HO]; · iexact HO
  iapply Hw
  unfold waitDone
  isplitl [Hp]; · iexact Hp
  iexact Ha

theorem stage_load {Q : α → sProp 𝕄} (n : ℕ) (k : Fin 7) (hk : k.val < n) {off : Fin 3 → ℕ} (ho : off = slotOff k.succ)
    {inb : ∀ x, off x + S1x128x1024.size x ≤ S8x128x1024.size x}
    {hl : stM.view.LoadsAt (Rect.unit (s := S8x128x1024) off S1x128x1024.size inb).toLoadRect} {kt : Vec F S1x128x1024 .bf16 → P F α} :
    iprop(waits I c 1 n ∗ (waits I c 1 n -∗ Wp c (kt (recvVal I k c)) Q))
      ⊢ Wp c (Prog.lift (.load stM (Rect.unit (s := S8x128x1024) off S1x128x1024.size inb).toLoadRect hl) >>= kt) Q := by
  iintro ⟨Hw, Hk⟩
  ihave Hw := (prog_look _ _ n k hk) $$ Hw
  icases Hw with ⟨Hd, Hw⟩
  unfold waitDone dmaPay
  icases Hd with ⟨Hs, Ha⟩
  iapply (load_win c (m := stM) ho (slotInb k.succ) fullShare (recvVal I k c))
  isplitl [Hs]; · iexact Hs
  iintro Hs
  iapply Hk
  iapply Hw
  isplitl [Hs]; · iexact Hs
  iexact Ha

theorem rbuf_load {Q : α → sProp 𝕄} (n : ℕ) (k : Fin 7) (hk : k.val < n) {off : Fin 3 → ℕ} (ho : off = slotOff k.succ)
    {inb : ∀ x, off x + S1x128x1024.size x ≤ S8x128x1024.size x}
    {hl : rM.view.LoadsAt (Rect.unit (s := S8x128x1024) off S1x128x1024.size inb).toLoadRect} {kt : Vec F S1x128x1024 .bf16 → P F α} :
    iprop(waits I c 3 n ∗ (waits I c 3 n -∗ Wp c (kt (gotVal I k c)) Q))
      ⊢ Wp c (Prog.lift (.load rM (Rect.unit (s := S8x128x1024) off S1x128x1024.size inb).toLoadRect hl) >>= kt) Q := by
  iintro ⟨Hw, Hk⟩
  ihave Hw := (prog_look _ _ n k hk) $$ Hw
  icases Hw with ⟨Hd, Hw⟩
  unfold waitDone dmaPay
  icases Hd with ⟨Hs, Ha⟩
  iapply (load_win c (m := rM) ho (slotInb k.succ) fullShare (gotVal I k c))
  isplitl [Hs]; · iexact Hs
  iintro Hs
  iapply Hk
  iapply Hw
  isplitl [Hs]; · iexact Hs
  iexact Ha

end Talk

end Cert.KernelIdeal.Run
-- ==== Proof.KParts.lean ====
/- The kernel part by part, on any device: what each part needs and what it leaves. -/
module

public import proofs.«01_k».proof.Proof.KMoves

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

/-- The six staging buffers of the operands and the result. -/
structure Wins where
  a0 : Memref sig .tc .vmem S1024x1024 .f32
  h0 : a0.IsWhole
  a1 : Memref sig .tc .vmem S1024x1024 .f32
  h1 : a1.IsWhole
  a2 : Memref sig .tc .vmem S1024x8x128 .f32
  h2 : a2.IsWhole
  a3 : Memref sig .tc .vmem S1024x8x128 .f32
  h3 : a3.IsWhole
  a4 : Memref sig .tc .vmem S1024x1024 .f32
  h4 : a4.IsWhole
  a5 : Memref sig .tc .vmem S1024x1024 .f32
  h5 : a5.IsWhole

/-! ## The printed values of the heads and the blocks -/

theorem pay_head1 (a : Inp F) : k0_pay7 (k0_pay6 (queries a) k0_pay2 (headOf a.k 1) (headOf a.v 1)) = headVal a 1 := rfl
theorem pay_head2 (a : Inp F) : k0_pay8 (queries a) k0_pay2 (headOf a.k 2) (headOf a.v 2) = headVal a 2 := rfl
theorem pay_head3 (a : Inp F) : k0_pay11 (k0_pay9 (headOf a.v 3)) (k0_pay10 (queries a) k0_pay2 (headOf a.k 3)) = headVal a 3 := rfl
theorem pay_head4 (a : Inp F) : k0_pay12 (queries a) k0_pay2 (headOf a.k 4) (headOf a.v 4) = headVal a 4 := rfl
theorem pay_head5 (a : Inp F) : k0_pay15 k0_pay2 (k0_pay13 (queries a)) (k0_pay14 (headOf a.k 5)) (headOf a.v 5) = headVal a 5 := rfl
theorem pay_head6 (a : Inp F) : k0_pay17 (k0_pay16 (queries a) k0_pay2 (headOf a.k 6) (headOf a.v 6)) = headVal a 6 := rfl
theorem pay_head7 (a : Inp F) : k0_pay18 (queries a) k0_pay2 (headOf a.k 7) (headOf a.v 7) = headVal a 7 := rfl

theorem pay20 : k0_pay20 (F := F) = k0_pay19 := rfl
theorem pay21 : k0_pay21 (F := F) = k0_pay19 := rfl
theorem pay22 : k0_pay22 (F := F) = k0_pay19 := rfl
theorem pay23 : k0_pay23 (F := F) = k0_pay19 := rfl
theorem pay24 : k0_pay24 (F := F) = k0_pay19 := rfl
theorem pay25 : k0_pay25 (F := F) = k0_pay19 := rfl
theorem pay32 : k0_pay32 (F := F) = k0_pay31 := rfl
theorem pay33 : k0_pay33 (F := F) = k0_pay31 := rfl
theorem pay34 : k0_pay34 (F := F) = k0_pay31 := rfl
theorem pay35 : k0_pay35 (F := F) = k0_pay31 := rfl
theorem pay36 : k0_pay36 (F := F) = k0_pay31 := rfl
theorem pay37 : k0_pay37 (F := F) = k0_pay31 := rfl

/-! ## Small passages between the parts -/

section Pass

variable {α : Type} (I : Dev nD → Inp F) (c : Dev nD)

/-- A part ends with its value. -/
theorem ret_move {Q : α → sProp 𝕄} (r : α) : Q r ⊢ Wp c (pure r) Q := by
  show Q r ⊢ wp frame _ _ (pure r) Q
  rw [wp_pure]
  iintro H
  imodintro
  iexact H

/-- The device asks which one it is. -/
theorem who_move {Q : α → sProp 𝕄} {k : Dev nD → P F α} : Wp c (k c) Q ⊢ Wp c (Prog.lift .deviceId >>= k) Q := by
  show Wp c (k c) Q ⊢ wp frame _ _ (Prog.lift .deviceId >>= k) Q
  simp only [Prog.bind_lift, wp_deviceId]
  exact BIBase.Entails.rfl

theorem head_load {Q : α → sProp 𝕄} {m : Memref sig .tc .vmem S1024x8x128 .f32} (X : Vec F S1024x8x128 .f32) (h : Fin 8)
    {off : Fin 3 → ℕ} {inb : ∀ a, off a + S1024x1x128.size a ≤ S1024x8x128.size a} (ho : off = headOff h)
    {hl : m.view.LoadsAt (Rect.unit (s := S1024x8x128) off S1024x1x128.size inb).toLoadRect} {k : Vec F S1024x1x128 .f32 → P F α} :
    iprop(holds c m.view fullShare X ∗ (holds c m.view fullShare X -∗ Wp c (k (headOf X h)) Q))
      ⊢ Wp c (Prog.lift (.load m (Rect.unit (s := S1024x8x128) off S1024x1x128.size inb).toLoadRect hl) >>= k) Q :=
  load_view c ho (headInb h) fullShare X

theorem rows_load {Q : α → sProp 𝕄} {m : Memref sig .tc .vmem S1024x1024 .f32} (X : Vec F S1024x1024 .f32) (r : Dev nD)
    {off : Fin 2 → ℕ} {inb : ∀ a, off a + S128x1024.size a ≤ S1024x1024.size a} (ho : off = rowOff r)
    {hl : m.view.LoadsAt (Rect.unit (s := S1024x1024) off S128x1024.size inb).toLoadRect} {k : Vec F S128x1024 .f32 → P F α} :
    iprop(holds c m.view fullShare X ∗ (holds c m.view fullShare X -∗ Wp c (k (rowsOf X r)) Q))
      ⊢ Wp c (Prog.lift (.load m (Rect.unit (s := S1024x1024) off S128x1024.size inb).toLoadRect hl) >>= k) Q :=
  load_view c ho (rowInb r) fullShare X

theorem owes_zero (O : CellTallies nD τ sig Unit) (g : ℕ → CellTallies nD τ sig Unit) (h : g 7 = 0) :
    (Owes c (O + g 7) : sProp 𝕄) ⊢ Owes c O := by
  rw [h, add_zero]

/-- The sends begun and the places of their waits are the waits to come. -/
theorem waits_one : iprop(ones (F := F) c 7 ∗ bigSep Finset.univ fun k => atPos ER (dCell 0 k c) 0 ∅ 0) ⊢ waits I c 0 0 := by
  unfold ones waits
  rw [prog_seven, prog_zero]
  exact BIBase.Entails.of_eq (bigSep_sep Finset.univ _ _).symm
theorem waits_two : iprop(twos I c 7 ∗ bigSep Finset.univ fun k => atPos ER (dCell 2 k c) 0 ∅ 0) ⊢ waits I c 2 0 := by
  unfold twos waits
  rw [prog_seven, prog_zero]
  exact BIBase.Entails.of_eq (bigSep_sep Finset.univ _ _).symm

/-- The reduced block shared out among the seven copies. -/
theorem share_out (X : Vec F S128x1024 .bf16) :
    holds c bM.view fullShare X ⊢ iprop(holds c bM.view (shareDrop fullShare 7) X ∗ bigSep Finset.univ fun k => holds c bM.view (lent k) X) := by
  unfold holds
  iintro ⟨%f, %hf, H⟩
  have point : ∀ k : Fin 7, (bM.view.loc (c : Thread nD τ) ↦[bM.view.set]{lent k} f : sProp 𝕄)
      ⊢ iprop(∃ f : Buf (Elt F) (bM.view.loc (c : Thread nD τ)), ⌜bM.view.read (Elt F) f = X⌝
        ∗ (bM.view.loc (c : Thread nD τ) ↦[bM.view.set]{lent k} f)) := by
    intro k
    iintro H
    iexists f
    isplitr; · ipureintro; exact hf
    iexact H
  ihave H := (Transfers.pointsTo_toks_split fullShare 7) $$ H
  icases H with ⟨H, Hs⟩
  isplitl [H]
  · iexists f
    isplitr; · ipureintro; exact hf
    iexact H
  ihave Hs := (show (bigSep Finset.univ fun k : Fin 7 => (bM.view.loc (c : Thread nD τ) ↦[bM.view.set]{lent k} f : sProp 𝕄))
      ⊢ bigSep Finset.univ fun k : Fin 7 => iprop(∃ f : Buf (Elt F) (bM.view.loc (c : Thread nD τ)), ⌜bM.view.read (Elt F) f = X⌝
        ∗ (bM.view.loc (c : Thread nD τ) ↦[bM.view.set]{lent k} f)) from bigSep_mono fun k _ => point k) $$ Hs
  iexact Hs

theorem twos_begin : iprop(bigSep Finset.univ (fun k => holds c bM.view (lent k) (sentOf I c)) ∗ bigSep Finset.univ (sendTodo c 2 3 rM))
    ⊢ twos I c 0 := by
  unfold twos
  rw [prog_zero]
  exact BIBase.Entails.of_eq (bigSep_sep Finset.univ _ _).symm

end Pass

/-! ## The parts -/

section Parts

variable (I : Dev nD → Inp F) (K : GSem nD τ sig → ℕ) (c : Dev nD) (W : Wins)

theorem part1 {Q : _ → sProp 𝕄} :
    iprop(recs I K ∗ Owes c (owedTwo c 0 + owedOne c 0 + owedBar c 0) ∗ sigs c 0
        ∗ ((Owes c (owedTwo c 0 + owedOne c 0 + owedBar c 5) ∗ sigs c 5) -∗ ∀ v2 v24 c8, Q ⟨c, v2, (SemArray.scalar (sig.barrier 0 rfl)), v24, c8⟩))
      ⊢ Wp c (k0_part1 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8) Q := by
  rw [k0_part1_eq_skeleton]
  dsimp only [k0_part1_skel]
  iintro ⟨#HR, HO, HS, Hk⟩
  iapply (who_move c)
  iapply (sig_move I K c 0 (by revert c; decide))
  isplitr; · iexact HR
  isplitl [HO]; · iexact HO
  isplitl [HS]; · iexact HS
  iintro ⟨HO, HS⟩
  iapply (sig_move I K c 1 (by revert c; decide))
  isplitr; · iexact HR
  isplitl [HO]; · iexact HO
  isplitl [HS]; · iexact HS
  iintro ⟨HO, HS⟩
  iapply (sig_move I K c 2 (by revert c; decide))
  isplitr; · iexact HR
  isplitl [HO]; · iexact HO
  isplitl [HS]; · iexact HS
  iintro ⟨HO, HS⟩
  iapply (sig_move I K c 3 (by revert c; decide))
  isplitr; · iexact HR
  isplitl [HO]; · iexact HO
  isplitl [HS]; · iexact HS
  iintro ⟨HO, HS⟩
  iapply (sig_move I K c 4 (by revert c; decide))
  isplitr; · iexact HR
  isplitl [HO]; · iexact HO
  isplitl [HS]; · iexact HS
  iintro ⟨HO, HS⟩
  iapply (ret_move c _)
  ihave Hk := Hk $$ [HO HS]
  · isplitl [HO]; · iexact HO
    iexact HS
  iapply Hk

theorem part2 {Q : _ → sProp 𝕄} (v2 v24 c8 : BitVec 32) :
    iprop(recs I K ∗ Owes c (owedTwo c 0 + owedOne c 0 + owedBar c 5) ∗ sigs c 5 ∗ cred (tallyAt (barCell c) () 7) ∗ atPos ER (barCell c) 0 ∅ 0 ∗ holds c W.a0.view fullShare (I c).x ∗ holds c W.a1.view fullShare (I c).wq ∗ holds c W.a2.view fullShare (I c).k ∗ holds c W.a3.view fullShare (I c).v
        ∗ ((Owes c (owedTwo c 0 + owedOne c 0) ∗ atPos ER (barCell c) 1 ∅ 0 ∗ (bigSep Finset.univ fun k => barPay k c) ∗ holds c W.a0.view fullShare (I c).x ∗ holds c W.a1.view fullShare (I c).wq ∗ holds c W.a2.view fullShare (I c).k ∗ holds c W.a3.view fullShare (I c).v) -∗ Q ⟨queries (I c), k0_pay2 (F := F), k0_pay3 (I c).x (I c).wq, k0_pay4 (headOf (I c).k 0), headOf (I c).v 0⟩))
      ⊢ Wp c (k0_part2 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 (SemArray.scalar (sig.barrier 0 rfl)) v24 c8) Q := by
  rw [k0_part2_eq_skeleton]
  dsimp only [k0_part2_skel]
  iintro ⟨#HR, HO, HS, HB, HA, H0, H1, H2, H3, Hk⟩
  iapply (sig_move I K c 5 (by revert c; decide))
  isplitr; · iexact HR
  isplitl [HO]; · iexact HO
  isplitl [HS]; · iexact HS
  iintro ⟨HO, HS⟩
  iapply (sig_move I K c 6 (by revert c; decide))
  isplitr; · iexact HR
  isplitl [HO]; · iexact HO
  isplitl [HS]; · iexact HS
  iintro ⟨HO, HS⟩
  ihave HO := (show Owes c (owedTwo c 0 + owedOne c 0 + owedBar c ((6 : Fin 7).val + 1)) ⊢ _ from owes_zero c (owedTwo c 0 + owedOne c 0) (owedBar c) (due_done _ _)) $$ HO
  iapply (barrier_step I K c)
  isplitr; · iexact HR
  isplitl [HO]; · iexact HO
  isplitl [HB]; · iexact HB
  isplitl [HA]; · iexact HA
  iintro ⟨HO, HA, HG⟩
  iapply (load_full c (m := W.a0) fullShare (I c).x)
  isplitl [H0]; · iexact H0
  iintro H0
  iapply (load_full c (m := W.a1) fullShare (I c).wq)
  isplitl [H1]; · iexact H1
  iintro H1
  iapply (head_load c (m := W.a2) (I c).k 0 rfl)
  isplitl [H2]; · iexact H2
  iintro H2
  iapply (head_load c (m := W.a3) (I c).v 0 rfl)
  isplitl [H3]; · iexact H3
  iintro H3
  iapply (ret_move c _)
  ihave Hk := Hk $$ [HO HA HG H0 H1 H2 H3]
  · isplitl [HO]; · iexact HO
    isplitl [HA]; · iexact HA
    isplitl [HG]; · iexact HG
    isplitl [H0]; · iexact H0
    isplitl [H1]; · iexact H1
    isplitl [H2]; · iexact H2
    iexact H3
  ihave Hk := (show Q ⟨queries (I c), k0_pay2 (F := F), k0_pay3 (I c).x (I c).wq, k0_pay4 (headOf (I c).k 0), headOf (I c).v 0⟩ ⊢ Q ⟨k0_pay1 (I c).x (I c).wq, k0_pay2 (F := F), k0_pay3 (I c).x (I c).wq, k0_pay4 (headOf (I c).k 0), headOf (I c).v 0⟩ from BIBase.Entails.rfl) $$ Hk
  iapply Hk

theorem part3 {Q : _ → sProp 𝕄} :
    iprop(ctxAt c (I c) 0 ∗ holds c W.a2.view fullShare (I c).k ∗ holds c W.a3.view fullShare (I c).v
        ∗ ((ctxAt c (I c) 1 ∗ holds c W.a2.view fullShare (I c).k ∗ holds c W.a3.view fullShare (I c).v) -∗ Q (k0_pay6 (queries (I c)) (k0_pay2 (F := F)) (headOf (I c).k 1) (headOf (I c).v 1))))
      ⊢ Wp c (k0_part3 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 (queries (I c)) (k0_pay2 (F := F)) (k0_pay3 (I c).x (I c).wq) (k0_pay4 (headOf (I c).k 0)) (headOf (I c).v 0)) Q := by
  rw [k0_part3_eq_skeleton]
  dsimp only [k0_part3_skel]
  iintro ⟨HX, H2, H3, Hk⟩
  iapply (ctx_look c (I c) 0)
  isplitl [HX]; · iexact HX
  iintro HX %_
  iapply (ctx_store c (I c) 0 rfl rfl)
  isplitl [HX]; · iexact HX
  iintro HX
  iapply (head_load c (m := W.a2) (I c).k 1 rfl)
  isplitl [H2]; · iexact H2
  iintro H2
  iapply (head_load c (m := W.a3) (I c).v 1 rfl)
  isplitl [H3]; · iexact H3
  iintro H3
  iapply (ctx_look c (I c) 1)
  isplitl [HX]; · iexact HX
  iintro HX %_
  iapply (ret_move c _)
  ihave Hk := Hk $$ [HX H2 H3]
  · isplitl [HX]; · iexact HX
    isplitl [H2]; · iexact H2
    iexact H3
  iapply Hk

theorem part4 {Q : _ → sProp 𝕄} :
    iprop(ctxAt c (I c) 1 ∗ holds c W.a2.view fullShare (I c).k ∗ holds c W.a3.view fullShare (I c).v
        ∗ ((ctxAt c (I c) 3 ∗ holds c W.a2.view fullShare (I c).k ∗ holds c W.a3.view fullShare (I c).v) -∗ Q ⟨k0_pay9 (headOf (I c).v 3), k0_pay10 (queries (I c)) (k0_pay2 (F := F)) (headOf (I c).k 3)⟩))
      ⊢ Wp c (k0_part4 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 (queries (I c)) (k0_pay2 (F := F)) (k0_pay6 (queries (I c)) (k0_pay2 (F := F)) (headOf (I c).k 1) (headOf (I c).v 1))) Q := by
  rw [k0_part4_eq_skeleton]
  dsimp only [k0_part4_skel]
  iintro ⟨HX, H2, H3, Hk⟩
  iapply (ctx_store c (I c) 1 rfl (pay_head1 (I c)))
  isplitl [HX]; · iexact HX
  iintro HX
  iapply (head_load c (m := W.a2) (I c).k 2 rfl)
  isplitl [H2]; · iexact H2
  iintro H2
  iapply (head_load c (m := W.a3) (I c).v 2 rfl)
  isplitl [H3]; · iexact H3
  iintro H3
  iapply (ctx_look c (I c) 2)
  isplitl [HX]; · iexact HX
  iintro HX %_
  iapply (ctx_store c (I c) 2 rfl (pay_head2 (I c)))
  isplitl [HX]; · iexact HX
  iintro HX
  iapply (head_load c (m := W.a2) (I c).k 3 rfl)
  isplitl [H2]; · iexact H2
  iintro H2
  iapply (head_load c (m := W.a3) (I c).v 3 rfl)
  isplitl [H3]; · iexact H3
  iintro H3
  iapply (ret_move c _)
  ihave Hk := Hk $$ [HX H2 H3]
  · isplitl [HX]; · iexact HX
    isplitl [H2]; · iexact H2
    iexact H3
  iapply Hk

theorem part5 {Q : _ → sProp 𝕄} :
    iprop(ctxAt c (I c) 3 ∗ holds c W.a2.view fullShare (I c).k ∗ holds c W.a3.view fullShare (I c).v
        ∗ ((ctxAt c (I c) 5 ∗ holds c W.a2.view fullShare (I c).k ∗ holds c W.a3.view fullShare (I c).v) -∗ Q ⟨k0_pay13 (queries (I c)), k0_pay14 (headOf (I c).k 5), headOf (I c).v 5⟩))
      ⊢ Wp c (k0_part5 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 (queries (I c)) (k0_pay2 (F := F)) (k0_pay9 (headOf (I c).v 3)) (k0_pay10 (queries (I c)) (k0_pay2 (F := F)) (headOf (I c).k 3))) Q := by
  rw [k0_part5_eq_skeleton]
  dsimp only [k0_part5_skel]
  iintro ⟨HX, H2, H3, Hk⟩
  iapply (ctx_look c (I c) 3)
  isplitl [HX]; · iexact HX
  iintro HX %_
  iapply (ctx_store c (I c) 3 rfl (pay_head3 (I c)))
  isplitl [HX]; · iexact HX
  iintro HX
  iapply (head_load c (m := W.a2) (I c).k 4 rfl)
  isplitl [H2]; · iexact H2
  iintro H2
  iapply (head_load c (m := W.a3) (I c).v 4 rfl)
  isplitl [H3]; · iexact H3
  iintro H3
  iapply (ctx_look c (I c) 4)
  isplitl [HX]; · iexact HX
  iintro HX %_
  iapply (ctx_store c (I c) 4 rfl (pay_head4 (I c)))
  isplitl [HX]; · iexact HX
  iintro HX
  iapply (head_load c (m := W.a2) (I c).k 5 rfl)
  isplitl [H2]; · iexact H2
  iintro H2
  iapply (head_load c (m := W.a3) (I c).v 5 rfl)
  isplitl [H3]; · iexact H3
  iintro H3
  iapply (ret_move c _)
  ihave Hk := Hk $$ [HX H2 H3]
  · isplitl [HX]; · iexact HX
    isplitl [H2]; · iexact H2
    iexact H3
  iapply Hk

theorem part6 {Q : _ → sProp 𝕄} :
    iprop(ctxAt c (I c) 5 ∗ holds c W.a2.view fullShare (I c).k ∗ holds c W.a3.view fullShare (I c).v
        ∗ ((ctxAt c (I c) 6 ∗ holds c W.a2.view fullShare (I c).k ∗ holds c W.a3.view fullShare (I c).v) -∗ Q (k0_pay16 (queries (I c)) (k0_pay2 (F := F)) (headOf (I c).k 6) (headOf (I c).v 6))))
      ⊢ Wp c (k0_part6 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 (queries (I c)) (k0_pay2 (F := F)) (k0_pay13 (queries (I c))) (k0_pay14 (headOf (I c).k 5)) (headOf (I c).v 5)) Q := by
  rw [k0_part6_eq_skeleton]
  dsimp only [k0_part6_skel]
  iintro ⟨HX, H2, H3, Hk⟩
  iapply (ctx_look c (I c) 5)
  isplitl [HX]; · iexact HX
  iintro HX %_
  iapply (ctx_store c (I c) 5 rfl (pay_head5 (I c)))
  isplitl [HX]; · iexact HX
  iintro HX
  iapply (head_load c (m := W.a2) (I c).k 6 rfl)
  isplitl [H2]; · iexact H2
  iintro H2
  iapply (head_load c (m := W.a3) (I c).v 6 rfl)
  isplitl [H3]; · iexact H3
  iintro H3
  iapply (ctx_look c (I c) 6)
  isplitl [HX]; · iexact HX
  iintro HX %_
  iapply (ret_move c _)
  ihave Hk := Hk $$ [HX H2 H3]
  · isplitl [HX]; · iexact HX
    isplitl [H2]; · iexact H2
    iexact H3
  iapply Hk

theorem part7 {Q : _ → sProp 𝕄} (v2 : BitVec 32) :
    iprop(ctxAt c (I c) 6 ∗ holds c W.a2.view fullShare (I c).k ∗ holds c W.a3.view fullShare (I c).v ∗ holds c W.a4.view fullShare (I c).wo ∗ ones c 0
        ∗ ((holds c cM.view fullShare (ctxOf (I c)) ∗ holds c W.a2.view fullShare (I c).k ∗ holds c W.a3.view fullShare (I c).v ∗ holds c W.a4.view fullShare (I c).wo ∗ oneHalf I c 0) -∗ ∀ v, Q v))
      ⊢ Wp c (k0_part7 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 (queries (I c)) (k0_pay2 (F := F)) (k0_pay16 (queries (I c)) (k0_pay2 (F := F)) (headOf (I c).k 6) (headOf (I c).v 6))) Q := by
  rw [k0_part7_eq_skeleton]
  dsimp only [k0_part7_skel]
  iintro ⟨HX, H2, H3, H4, HP, Hk⟩
  iapply (ctx_store c (I c) 6 rfl (pay_head6 (I c)))
  isplitl [HX]; · iexact HX
  iintro HX
  iapply (head_load c (m := W.a2) (I c).k 7 rfl)
  isplitl [H2]; · iexact H2
  iintro H2
  iapply (head_load c (m := W.a3) (I c).v 7 rfl)
  isplitl [H3]; · iexact H3
  iintro H3
  iapply (ctx_look c (I c) 7)
  isplitl [HX]; · iexact HX
  iintro HX %_
  iapply (ctx_store c (I c) 7 rfl (pay_head7 (I c)))
  isplitl [HX]; · iexact HX
  iintro HX
  ihave HX := (show ctxAt c (I c) ((7 : Fin 8).val + 1) ⊢ _ from ctx_done c (I c)) $$ HX
  iapply (part_move I c 0 (off1_eq c 0) (m := W.a4))
  isplitl [HX]; · iexact HX
  isplitl [H4]; · iexact H4
  isplitl [HP]; · iexact HP
  iintro ⟨HX, H4, HP⟩
  iapply (ret_move c _)
  ihave Hk := Hk $$ [HX H2 H3 H4 HP]
  · isplitl [HX]; · iexact HX
    isplitl [H2]; · iexact H2
    isplitl [H3]; · iexact H3
    isplitl [H4]; · iexact H4
    iexact HP
  iapply Hk

theorem part8 {Q : _ → sProp 𝕄} (v2 u : BitVec 32) :
    iprop(recs I K ∗ Owes c (owedTwo c 0 + owedOne c 0) ∗ holds c cM.view fullShare (ctxOf (I c)) ∗ holds c W.a4.view fullShare (I c).wo ∗ oneHalf I c 0
        ∗ ((Owes c (owedTwo c 0 + owedOne c 2) ∗ holds c cM.view fullShare (ctxOf (I c)) ∗ holds c W.a4.view fullShare (I c).wo ∗ ones c 2) -∗ ∀ v, Q v))
      ⊢ Wp c (k0_part8 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 u) Q := by
  rw [k0_part8_eq_skeleton]
  dsimp only [k0_part8_skel]
  rw [pay20]
  iintro ⟨#HR, HO, HX, H4, HP, Hk⟩
  iapply (one_move I K c 0 (off2_eq c 0) (by revert c; decide) rfl rfl rfl)
  isplitr; · iexact HR
  isplitl [HO]; · iexact HO
  isplitl [HP]; · iexact HP
  iintro ⟨HO, HP⟩
  iapply (part_move I c 1 (off1_eq c 1) (m := W.a4))
  isplitl [HX]; · iexact HX
  isplitl [H4]; · iexact H4
  isplitl [HP]; · iexact HP
  iintro ⟨HX, H4, HP⟩
  iapply (one_move I K c 1 (off2_eq c 1) (by revert c; decide) rfl rfl rfl)
  isplitr; · iexact HR
  isplitl [HO]; · iexact HO
  isplitl [HP]; · iexact HP
  iintro ⟨HO, HP⟩
  iapply (ret_move c _)
  ihave Hk := Hk $$ [HO HX H4 HP]
  · isplitl [HO]; · iexact HO
    isplitl [HX]; · iexact HX
    isplitl [H4]; · iexact H4
    iexact HP
  iapply Hk

theorem part9 {Q : _ → sProp 𝕄} (v2 u : BitVec 32) :
    iprop(recs I K ∗ Owes c (owedTwo c 0 + owedOne c 2) ∗ holds c cM.view fullShare (ctxOf (I c)) ∗ holds c W.a4.view fullShare (I c).wo ∗ ones c 2
        ∗ ((Owes c (owedTwo c 0 + owedOne c 3) ∗ holds c cM.view fullShare (ctxOf (I c)) ∗ holds c W.a4.view fullShare (I c).wo ∗ oneHalf I c 3) -∗ ∀ v, Q v))
      ⊢ Wp c (k0_part9 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 u) Q := by
  rw [k0_part9_eq_skeleton]
  dsimp only [k0_part9_skel]
  rw [pay21, pay22]
  iintro ⟨#HR, HO, HX, H4, HP, Hk⟩
  iapply (part_move I c 2 (off1_eq c 2) (m := W.a4))
  isplitl [HX]; · iexact HX
  isplitl [H4]; · iexact H4
  isplitl [HP]; · iexact HP
  iintro ⟨HX, H4, HP⟩
  iapply (one_move I K c 2 (off2_eq c 2) (by revert c; decide) rfl rfl rfl)
  isplitr; · iexact HR
  isplitl [HO]; · iexact HO
  isplitl [HP]; · iexact HP
  iintro ⟨HO, HP⟩
  iapply (part_move I c 3 (off1_eq c 3) (m := W.a4))
  isplitl [HX]; · iexact HX
  isplitl [H4]; · iexact H4
  isplitl [HP]; · iexact HP
  iintro ⟨HX, H4, HP⟩
  iapply (ret_move c _)
  ihave Hk := Hk $$ [HO HX H4 HP]
  · isplitl [HO]; · iexact HO
    isplitl [HX]; · iexact HX
    isplitl [H4]; · iexact H4
    iexact HP
  iapply Hk

theorem part10 {Q : _ → sProp 𝕄} (v2 u : BitVec 32) :
    iprop(recs I K ∗ Owes c (owedTwo c 0 + owedOne c 3) ∗ holds c cM.view fullShare (ctxOf (I c)) ∗ holds c W.a4.view fullShare (I c).wo ∗ oneHalf I c 3
        ∗ ((Owes c (owedTwo c 0 + owedOne c 5) ∗ holds c cM.view fullShare (ctxOf (I c)) ∗ holds c W.a4.view fullShare (I c).wo ∗ ones c 5) -∗ ∀ v, Q v))
      ⊢ Wp c (k0_part10 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 u) Q := by
  rw [k0_part10_eq_skeleton]
  dsimp only [k0_part10_skel]
  rw [pay23]
  iintro ⟨#HR, HO, HX, H4, HP, Hk⟩
  iapply (one_move I K c 3 (off2_eq c 3) (by revert c; decide) rfl rfl rfl)
  isplitr; · iexact HR
  isplitl [HO]; · iexact HO
  isplitl [HP]; · iexact HP
  iintro ⟨HO, HP⟩
  iapply (part_move I c 4 (off1_eq c 4) (m := W.a4))
  isplitl [HX]; · iexact HX
  isplitl [H4]; · iexact H4
  isplitl [HP]; · iexact HP
  iintro ⟨HX, H4, HP⟩
  iapply (one_move I K c 4 (off2_eq c 4) (by revert c; decide) rfl rfl rfl)
  isplitr; · iexact HR
  isplitl [HO]; · iexact HO
  isplitl [HP]; · iexact HP
  iintro ⟨HO, HP⟩
  iapply (ret_move c _)
  ihave Hk := Hk $$ [HO HX H4 HP]
  · isplitl [HO]; · iexact HO
    isplitl [HX]; · iexact HX
    isplitl [H4]; · iexact H4
    iexact HP
  iapply Hk

theorem part11 {Q : _ → sProp 𝕄} (v2 u : BitVec 32) :
    iprop(recs I K ∗ Owes c (owedTwo c 0 + owedOne c 5) ∗ holds c cM.view fullShare (ctxOf (I c)) ∗ holds c W.a4.view fullShare (I c).wo ∗ ones c 5
        ∗ ((Owes c (owedTwo c 0 + owedOne c 6) ∗ holds c cM.view fullShare (ctxOf (I c)) ∗ holds c W.a4.view fullShare (I c).wo ∗ oneHalf I c 6) -∗ ∀ v, Q v))
      ⊢ Wp c (k0_part11 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 u) Q := by
  rw [k0_part11_eq_skeleton]
  dsimp only [k0_part11_skel]
  rw [pay24, pay25]
  iintro ⟨#HR, HO, HX, H4, HP, Hk⟩
  iapply (part_move I c 5 (off1_eq c 5) (m := W.a4))
  isplitl [HX]; · iexact HX
  isplitl [H4]; · iexact H4
  isplitl [HP]; · iexact HP
  iintro ⟨HX, H4, HP⟩
  iapply (one_move I K c 5 (off2_eq c 5) (by revert c; decide) rfl rfl rfl)
  isplitr; · iexact HR
  isplitl [HO]; · iexact HO
  isplitl [HP]; · iexact HP
  iintro ⟨HO, HP⟩
  iapply (part_move I c 6 (off1_eq c 6) (m := W.a4))
  isplitl [HX]; · iexact HX
  isplitl [H4]; · iexact H4
  isplitl [HP]; · iexact HP
  iintro ⟨HX, H4, HP⟩
  iapply (ret_move c _)
  ihave Hk := Hk $$ [HO HX H4 HP]
  · isplitl [HO]; · iexact HO
    isplitl [HX]; · iexact HX
    isplitl [H4]; · iexact H4
    iexact HP
  iapply Hk

theorem part12 {Q : _ → sProp 𝕄} (v2 u : BitVec 32) :
    iprop(recs I K ∗ Owes c (owedTwo c 0 + owedOne c 6) ∗ holds c cM.view fullShare (ctxOf (I c)) ∗ holds c W.a4.view fullShare (I c).wo ∗ oneHalf I c 6 ∗ waits I c 1 0
        ∗ ((Owes c (owedTwo c 0) ∗ holds c cM.view fullShare (ctxOf (I c)) ∗ holds c W.a4.view fullShare (I c).wo ∗ ones c 7 ∗ waits I c 1 1) -∗ ∀ v v', Q ⟨v, (k0_pay26 (rowsOf (ctxOf (I c)) c) (I c).wo (recvVal I 0 c)), v'⟩))
      ⊢ Wp c (k0_part12 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 u) Q := by
  rw [k0_part12_eq_skeleton]
  dsimp only [k0_part12_skel]
  iintro ⟨#HR, HO, HX, H4, HP, HW, Hk⟩
  iapply (one_move I K c 6 (off2_eq c 6) (by revert c; decide) rfl rfl rfl)
  isplitr; · iexact HR
  isplitl [HO]; · iexact HO
  isplitl [HP]; · iexact HP
  iintro ⟨HO, HP⟩
  ihave HO := (show Owes c (owedTwo c 0 + owedOne c ((6 : Fin 7).val + 1)) ⊢ _ from owes_zero c (owedTwo c 0) (owedOne c) (due_done _ _)) $$ HO
  iapply (rows_load c (m := cM) (ctxOf (I c)) c (off3_eq c))
  isplitl [HX]; · iexact HX
  iintro HX
  iapply (load_full c (m := W.a4) fullShare (I c).wo)
  isplitl [H4]; · iexact H4
  iintro H4
  iapply (wait_move I K c 1 0 (by rfl) (owedTwo c 0) (mayWait_one c 0) (by rfl))
  isplitr; · iexact HR
  isplitl [HO]; · iexact HO
  isplitl [HW]; · iexact HW
  iintro ⟨HO, HW⟩
  iapply (stage_load I c 1 0 (by decide) rfl)
  isplitl [HW]; · iexact HW
  iintro HW
  iapply (ret_move c _)
  ihave Hk := Hk $$ [HO HX H4 HP HW]
  · isplitl [HO]; · iexact HO
    isplitl [HX]; · iexact HX
    isplitl [H4]; · iexact H4
    isplitl [HP]; · iexact HP
    iexact HW
  iapply Hk

theorem part13 {Q : _ → sProp 𝕄} (v2 u : BitVec 32) :
    iprop(recs I K ∗ Owes c (owedTwo c 0) ∗ waits I c 1 1
        ∗ ((Owes c (owedTwo c 0) ∗ waits I c 1 3) -∗ ∀ v, Q ⟨(k0_pay27 (k0_pay26 (rowsOf (ctxOf (I c)) c) (I c).wo (recvVal I 0 c)) (recvVal I 1 c) (recvVal I 2 c)), v⟩))
      ⊢ Wp c (k0_part13 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 v2 (k0_pay26 (rowsOf (ctxOf (I c)) c) (I c).wo (recvVal I 0 c)) u) Q := by
  rw [k0_part13_eq_skeleton]
  dsimp only [k0_part13_skel]
  iintro ⟨#HR, HO, HW, Hk⟩
  iapply (wait_move I K c 1 1 (by rfl) (owedTwo c 0) (mayWait_one c 1) (by rfl))
  isplitr; · iexact HR
  isplitl [HO]; · iexact HO
  isplitl [HW]; · iexact HW
  iintro ⟨HO, HW⟩
  iapply (stage_load I c 2 1 (by decide) rfl)
  isplitl [HW]; · iexact HW
  iintro HW
  iapply (wait_move I K c 1 2 (by rfl) (owedTwo c 0) (mayWait_one c 2) (by rfl))
  isplitr; · iexact HR
  isplitl [HO]; · iexact HO
  isplitl [HW]; · iexact HW
  iintro ⟨HO, HW⟩
  iapply (stage_load I c 3 2 (by decide) rfl)
  isplitl [HW]; · iexact HW
  iintro HW
  iapply (ret_move c _)
  ihave Hk := Hk $$ [HO HW]
  · isplitl [HO]; · iexact HO
    iexact HW
  iapply Hk

theorem part14 {Q : _ → sProp 𝕄} (v2 u : BitVec 32) :
    iprop(recs I K ∗ Owes c (owedTwo c 0) ∗ waits I c 1 3
        ∗ ((Owes c (owedTwo c 0) ∗ waits I c 1 5) -∗ ∀ v, Q ⟨(k0_pay28 (k0_pay27 (k0_pay26 (rowsOf (ctxOf (I c)) c) (I c).wo (recvVal I 0 c)) (recvVal I 1 c) (recvVal I 2 c)) (recvVal I 3 c) (recvVal I 4 c)), v⟩))
      ⊢ Wp c (k0_part14 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 v2 (k0_pay27 (k0_pay26 (rowsOf (ctxOf (I c)) c) (I c).wo (recvVal I 0 c)) (recvVal I 1 c) (recvVal I 2 c)) u) Q := by
  rw [k0_part14_eq_skeleton]
  dsimp only [k0_part14_skel]
  iintro ⟨#HR, HO, HW, Hk⟩
  iapply (wait_move I K c 1 3 (by rfl) (owedTwo c 0) (mayWait_one c 3) (by rfl))
  isplitr; · iexact HR
  isplitl [HO]; · iexact HO
  isplitl [HW]; · iexact HW
  iintro ⟨HO, HW⟩
  iapply (stage_load I c 4 3 (by decide) rfl)
  isplitl [HW]; · iexact HW
  iintro HW
  iapply (wait_move I K c 1 4 (by rfl) (owedTwo c 0) (mayWait_one c 4) (by rfl))
  isplitr; · iexact HR
  isplitl [HO]; · iexact HO
  isplitl [HW]; · iexact HW
  iintro ⟨HO, HW⟩
  iapply (stage_load I c 5 4 (by decide) rfl)
  isplitl [HW]; · iexact HW
  iintro HW
  iapply (ret_move c _)
  ihave Hk := Hk $$ [HO HW]
  · isplitl [HO]; · iexact HO
    iexact HW
  iapply Hk

theorem part15 {Q : _ → sProp 𝕄} (v2 u u' : BitVec 32) :
    iprop(recs I K ∗ Owes c (owedTwo c 0) ∗ waits I c 1 5
        ∗ ((Owes c (owedTwo c 0) ∗ waits I c 1 7) -∗ Q (totalOf I c)))
      ⊢ Wp c (k0_part15 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 v2 u (k0_pay28 (k0_pay27 (k0_pay26 (rowsOf (ctxOf (I c)) c) (I c).wo (recvVal I 0 c)) (recvVal I 1 c) (recvVal I 2 c)) (recvVal I 3 c) (recvVal I 4 c)) u') Q := by
  rw [k0_part15_eq_skeleton]
  dsimp only [k0_part15_skel]
  iintro ⟨#HR, HO, HW, Hk⟩
  iapply (wait_move I K c 1 5 (by rfl) (owedTwo c 0) (mayWait_one c 5) (by rfl))
  isplitr; · iexact HR
  isplitl [HO]; · iexact HO
  isplitl [HW]; · iexact HW
  iintro ⟨HO, HW⟩
  iapply (stage_load I c 6 5 (by decide) rfl)
  isplitl [HW]; · iexact HW
  iintro HW
  iapply (wait_move I K c 1 6 (by rfl) (owedTwo c 0) (mayWait_one c 6) (by rfl))
  isplitr; · iexact HR
  isplitl [HO]; · iexact HO
  isplitl [HW]; · iexact HW
  iintro ⟨HO, HW⟩
  iapply (stage_load I c 7 6 (by decide) rfl)
  isplitl [HW]; · iexact HW
  iintro HW
  iapply (ret_move c _)
  ihave Hk := Hk $$ [HO HW]
  · isplitl [HO]; · iexact HO
    iexact HW
  ihave Hk := (show Q (totalOf I c) ⊢ Q (k0_pay29 (k0_pay28 (k0_pay27 (k0_pay26 (rowsOf (ctxOf (I c)) c) (I c).wo (recvVal I 0 c)) (recvVal I 1 c) (recvVal I 2 c)) (recvVal I 3 c) (recvVal I 4 c)) (recvVal I 5 c) (recvVal I 6 c)) from BIBase.Entails.rfl) $$ Hk
  iapply Hk

theorem part16 {Q : _ → sProp 𝕄} (v2 : BitVec 32) (X : Vec F S1024x1024 .f32) (Y : Vec F S128x1024 .bf16) :
    iprop(recs I K ∗ Owes c (owedTwo c 0) ∗ holds c W.a5.view fullShare X ∗ holds c bM.view fullShare Y ∗ bigSep Finset.univ (sendTodo c 2 3 rM)
        ∗ ((Owes c (owedTwo c 2) ∗ outAt c I W.a5 0 ∗ holds c bM.view (shareDrop fullShare 7) (sentOf I c) ∗ twos I c 2) -∗ ∀ v v', Q ⟨v, v'⟩))
      ⊢ Wp c (k0_part16 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 (totalOf I c)) Q := by
  rw [k0_part16_eq_skeleton]
  dsimp only [k0_part16_skel]
  iintro ⟨#HR, HO, H5, HY, HD, Hk⟩
  iapply (out_own c I (m := W.a5) (off3_eq c) rfl X)
  isplitl [H5]; · iexact H5
  iintro H5
  iapply (load_full c (m := bM) fullShare Y)
  isplitl [HY]; · iexact HY
  iintro HY
  iapply (store_full c (m := bM) Y)
  isplitl [HY]; · iexact HY
  iintro HY
  ihave HY := (show holds c bM.view fullShare (k0_pay30 (totalOf I c)) ⊢ _ from share_out c (sentOf I c)) $$ HY
  icases HY with ⟨HY, HL⟩
  ihave HT := (twos_begin I c) $$ [HL HD]
  · isplitl [HL]; · iexact HL
    iexact HD
  iapply (two_move I K c 0 (by revert c; decide) rfl rfl rfl)
  isplitr; · iexact HR
  isplitl [HO]; · iexact HO
  isplitl [HT]; · iexact HT
  iintro ⟨HO, HT⟩
  iapply (two_move I K c 1 (by revert c; decide) rfl rfl rfl)
  isplitr; · iexact HR
  isplitl [HO]; · iexact HO
  isplitl [HT]; · iexact HT
  iintro ⟨HO, HT⟩
  iapply (ret_move c _)
  ihave Hk := Hk $$ [HO H5 HY HT]
  · isplitl [HO]; · iexact HO
    isplitl [H5]; · iexact H5
    isplitl [HY]; · iexact HY
    iexact HT
  iapply Hk

theorem part17 {Q : _ → sProp 𝕄} (v2 u u' : BitVec 32) :
    iprop(recs I K ∗ Owes c (owedTwo c 2) ∗ twos I c 2
        ∗ ((Owes c (owedTwo c 5) ∗ twos I c 5) -∗ ∀ v v', Q ⟨v, v'⟩))
      ⊢ Wp c (k0_part17 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 u u') Q := by
  rw [k0_part17_eq_skeleton]
  dsimp only [k0_part17_skel]
  iintro ⟨#HR, HO, HT, Hk⟩
  iapply (two_move I K c 2 (by revert c; decide) rfl rfl rfl)
  isplitr; · iexact HR
  isplitl [HO]; · iexact HO
  isplitl [HT]; · iexact HT
  iintro ⟨HO, HT⟩
  iapply (two_move I K c 3 (by revert c; decide) rfl rfl rfl)
  isplitr; · iexact HR
  isplitl [HO]; · iexact HO
  isplitl [HT]; · iexact HT
  iintro ⟨HO, HT⟩
  iapply (two_move I K c 4 (by revert c; decide) rfl rfl rfl)
  isplitr; · iexact HR
  isplitl [HO]; · iexact HO
  isplitl [HT]; · iexact HT
  iintro ⟨HO, HT⟩
  iapply (ret_move c _)
  ihave Hk := Hk $$ [HO HT]
  · isplitl [HO]; · iexact HO
    iexact HT
  iapply Hk

theorem part18 {Q : _ → sProp 𝕄} (v2 u u' : BitVec 32) :
    iprop(recs I K ∗ Owes c (owedTwo c 5) ∗ twos I c 5 ∗ waits I c 3 0
        ∗ ((Owes c (0) ∗ twos I c 7 ∗ waits I c 3 1) -∗ Q (k0_pay31 (gotVal I 0 c))))
      ⊢ Wp c (k0_part18 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 u u') Q := by
  rw [k0_part18_eq_skeleton]
  dsimp only [k0_part18_skel]
  iintro ⟨#HR, HO, HT, HV, Hk⟩
  iapply (two_move I K c 5 (by revert c; decide) rfl rfl rfl)
  isplitr; · iexact HR
  isplitl [HO]; · iexact HO
  isplitl [HT]; · iexact HT
  iintro ⟨HO, HT⟩
  iapply (two_move I K c 6 (by revert c; decide) rfl rfl rfl)
  isplitr; · iexact HR
  isplitl [HO]; · iexact HO
  isplitl [HT]; · iexact HT
  iintro ⟨HO, HT⟩
  ihave HO := (show Owes c (owedTwo c ((6 : Fin 7).val + 1)) ⊢ Owes c 0 from BIBase.Entails.of_eq (congrArg (Owes c) (due_done _ _))) $$ HO
  iapply (wait_move I K c 3 0 (by rfl) 0 (mayWait_none c _) (by rfl))
  isplitr; · iexact HR
  isplitl [HO]; · iexact HO
  isplitl [HV]; · iexact HV
  iintro ⟨HO, HV⟩
  iapply (rbuf_load I c 1 0 (by decide) rfl)
  isplitl [HV]; · iexact HV
  iintro HV
  iapply (ret_move c _)
  ihave Hk := Hk $$ [HO HT HV]
  · isplitl [HO]; · iexact HO
    isplitl [HT]; · iexact HT
    iexact HV
  iapply Hk

theorem part19 {Q : _ → sProp 𝕄} (v2 : BitVec 32) :
    iprop(recs I K ∗ Owes c (0) ∗ waits I c 3 1 ∗ outAt c I W.a5 0
        ∗ ((Owes c (0) ∗ waits I c 3 3 ∗ outAt c I W.a5 2) -∗ ∀ v, Q ⟨v, k0_pay31 (gotVal I 2 c)⟩))
      ⊢ Wp c (k0_part19 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 (k0_pay31 (gotVal I 0 c))) Q := by
  rw [k0_part19_eq_skeleton]
  dsimp only [k0_part19_skel]
  rw [pay32, pay33]
  iintro ⟨#HR, HO, HV, H5, Hk⟩
  iapply (out_store c I (m := W.a5) 0 (off4_eq c 0) rfl)
  isplitl [H5]; · iexact H5
  iintro H5
  iapply (wait_move I K c 3 1 (by rfl) 0 (mayWait_none c _) (by rfl))
  isplitr; · iexact HR
  isplitl [HO]; · iexact HO
  isplitl [HV]; · iexact HV
  iintro ⟨HO, HV⟩
  iapply (rbuf_load I c 2 1 (by decide) rfl)
  isplitl [HV]; · iexact HV
  iintro HV
  iapply (out_store c I (m := W.a5) 1 (off4_eq c 1) rfl)
  isplitl [H5]; · iexact H5
  iintro H5
  iapply (wait_move I K c 3 2 (by rfl) 0 (mayWait_none c _) (by rfl))
  isplitr; · iexact HR
  isplitl [HO]; · iexact HO
  isplitl [HV]; · iexact HV
  iintro ⟨HO, HV⟩
  iapply (rbuf_load I c 3 2 (by decide) rfl)
  isplitl [HV]; · iexact HV
  iintro HV
  iapply (ret_move c _)
  ihave Hk := Hk $$ [HO HV H5]
  · isplitl [HO]; · iexact HO
    isplitl [HV]; · iexact HV
    iexact H5
  iapply Hk

theorem part20 {Q : _ → sProp 𝕄} (v2 u : BitVec 32) :
    iprop(recs I K ∗ Owes c (0) ∗ waits I c 3 3 ∗ outAt c I W.a5 2
        ∗ ((Owes c (0) ∗ waits I c 3 5 ∗ outAt c I W.a5 4) -∗ ∀ v, Q v))
      ⊢ Wp c (k0_part20 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 u (k0_pay31 (gotVal I 2 c))) Q := by
  rw [k0_part20_eq_skeleton]
  dsimp only [k0_part20_skel]
  rw [pay34]
  iintro ⟨#HR, HO, HV, H5, Hk⟩
  iapply (out_store c I (m := W.a5) 2 (off4_eq c 2) rfl)
  isplitl [H5]; · iexact H5
  iintro H5
  iapply (wait_move I K c 3 3 (by rfl) 0 (mayWait_none c _) (by rfl))
  isplitr; · iexact HR
  isplitl [HO]; · iexact HO
  isplitl [HV]; · iexact HV
  iintro ⟨HO, HV⟩
  iapply (rbuf_load I c 4 3 (by decide) rfl)
  isplitl [HV]; · iexact HV
  iintro HV
  iapply (out_store c I (m := W.a5) 3 (off4_eq c 3) rfl)
  isplitl [H5]; · iexact H5
  iintro H5
  iapply (wait_move I K c 3 4 (by rfl) 0 (mayWait_none c _) (by rfl))
  isplitr; · iexact HR
  isplitl [HO]; · iexact HO
  isplitl [HV]; · iexact HV
  iintro ⟨HO, HV⟩
  iapply (ret_move c _)
  ihave Hk := Hk $$ [HO HV H5]
  · isplitl [HO]; · iexact HO
    isplitl [HV]; · iexact HV
    iexact H5
  iapply Hk

theorem part21 {Q : _ → sProp 𝕄} (v2 u : BitVec 32) :
    iprop(recs I K ∗ Owes c (0) ∗ waits I c 3 5 ∗ outAt c I W.a5 4
        ∗ ((Owes c (0) ∗ waits I c 3 6 ∗ outAt c I W.a5 6) -∗ ∀ v, Q v))
      ⊢ Wp c (k0_part21 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c v2 u) Q := by
  rw [k0_part21_eq_skeleton]
  dsimp only [k0_part21_skel]
  rw [pay35, pay36]
  iintro ⟨#HR, HO, HV, H5, Hk⟩
  iapply (rbuf_load I c 5 4 (by decide) rfl)
  isplitl [HV]; · iexact HV
  iintro HV
  iapply (out_store c I (m := W.a5) 4 (off4_eq c 4) rfl)
  isplitl [H5]; · iexact H5
  iintro H5
  iapply (wait_move I K c 3 5 (by rfl) 0 (mayWait_none c _) (by rfl))
  isplitr; · iexact HR
  isplitl [HO]; · iexact HO
  isplitl [HV]; · iexact HV
  iintro ⟨HO, HV⟩
  iapply (rbuf_load I c 6 5 (by decide) rfl)
  isplitl [HV]; · iexact HV
  iintro HV
  iapply (out_store c I (m := W.a5) 5 (off4_eq c 5) rfl)
  isplitl [H5]; · iexact H5
  iintro H5
  iapply (ret_move c _)
  ihave Hk := Hk $$ [HO HV H5]
  · isplitl [HO]; · iexact HO
    isplitl [HV]; · iexact HV
    iexact H5
  iapply Hk

theorem part22 {Q : _ → sProp 𝕄} (u : BitVec 32) :
    iprop(recs I K ∗ Owes c (0) ∗ waits I c 3 6 ∗ outAt c I W.a5 6 ∗ waits I c 0 0
        ∗ ((Owes c (0) ∗ waits I c 3 7 ∗ outAt c I W.a5 7 ∗ waits I c 0 3) -∗ Q ⟨⟩))
      ⊢ Wp c (k0_part22 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c u) Q := by
  rw [k0_part22_eq_skeleton]
  dsimp only [k0_part22_skel]
  rw [pay37]
  iintro ⟨#HR, HO, HV, H5, HE, Hk⟩
  iapply (wait_move I K c 3 6 (by rfl) 0 (mayWait_none c _) (by rfl))
  isplitr; · iexact HR
  isplitl [HO]; · iexact HO
  isplitl [HV]; · iexact HV
  iintro ⟨HO, HV⟩
  iapply (rbuf_load I c 7 6 (by decide) rfl)
  isplitl [HV]; · iexact HV
  iintro HV
  iapply (out_store c I (m := W.a5) 6 (off4_eq c 6) rfl)
  isplitl [H5]; · iexact H5
  iintro H5
  iapply (wait_move I K c 0 0 (by rfl) 0 (mayWait_none c _) (by rfl))
  isplitr; · iexact HR
  isplitl [HO]; · iexact HO
  isplitl [HE]; · iexact HE
  iintro ⟨HO, HE⟩
  iapply (wait_move I K c 0 1 (by rfl) 0 (mayWait_none c _) (by rfl))
  isplitr; · iexact HR
  isplitl [HO]; · iexact HO
  isplitl [HE]; · iexact HE
  iintro ⟨HO, HE⟩
  iapply (wait_move I K c 0 2 (by rfl) 0 (mayWait_none c _) (by rfl))
  isplitr; · iexact HR
  isplitl [HO]; · iexact HO
  isplitl [HE]; · iexact HE
  iintro ⟨HO, HE⟩
  iapply (ret_move c _)
  ihave Hk := Hk $$ [HO HV H5 HE]
  · isplitl [HO]; · iexact HO
    isplitl [HV]; · iexact HV
    isplitl [H5]; · iexact H5
    iexact HE
  iapply Hk

theorem part23 {Q : _ → sProp 𝕄} :
    iprop(recs I K ∗ Owes c (0) ∗ waits I c 0 3 ∗ waits I c 2 0
        ∗ ((Owes c (0) ∗ waits I c 0 7 ∗ waits I c 2 1) -∗ Q ⟨⟩))
      ⊢ Wp c (k0_part23 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8 c) Q := by
  rw [k0_part23_eq_skeleton]
  dsimp only [k0_part23_skel]
  iintro ⟨#HR, HO, HE, HF, Hk⟩
  iapply (wait_move I K c 0 3 (by rfl) 0 (mayWait_none c _) (by rfl))
  isplitr; · iexact HR
  isplitl [HO]; · iexact HO
  isplitl [HE]; · iexact HE
  iintro ⟨HO, HE⟩
  iapply (wait_move I K c 0 4 (by rfl) 0 (mayWait_none c _) (by rfl))
  isplitr; · iexact HR
  isplitl [HO]; · iexact HO
  isplitl [HE]; · iexact HE
  iintro ⟨HO, HE⟩
  iapply (wait_move I K c 0 5 (by rfl) 0 (mayWait_none c _) (by rfl))
  isplitr; · iexact HR
  isplitl [HO]; · iexact HO
  isplitl [HE]; · iexact HE
  iintro ⟨HO, HE⟩
  iapply (wait_move I K c 0 6 (by rfl) 0 (mayWait_none c _) (by rfl))
  isplitr; · iexact HR
  isplitl [HO]; · iexact HO
  isplitl [HE]; · iexact HE
  iintro ⟨HO, HE⟩
  iapply (wait_move I K c 2 0 (by rfl) 0 (mayWait_none c _) (by rfl))
  isplitr; · iexact HR
  isplitl [HO]; · iexact HO
  isplitl [HF]; · iexact HF
  iintro ⟨HO, HF⟩
  iapply (ret_move c _)
  ihave Hk := Hk $$ [HO HE HF]
  · isplitl [HO]; · iexact HO
    isplitl [HE]; · iexact HE
    iexact HF
  iapply Hk

theorem part24 {Q : _ → sProp 𝕄} :
    iprop(recs I K ∗ Owes c (0) ∗ waits I c 2 1
        ∗ ((Owes c (0) ∗ waits I c 2 6) -∗ Q ⟨⟩))
      ⊢ Wp c (k0_part24 (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8) Q := by
  rw [k0_part24_eq_skeleton]
  dsimp only [k0_part24_skel]
  iintro ⟨#HR, HO, HF, Hk⟩
  iapply (wait_move I K c 2 1 (by rfl) 0 (mayWait_none c _) (by rfl))
  isplitr; · iexact HR
  isplitl [HO]; · iexact HO
  isplitl [HF]; · iexact HF
  iintro ⟨HO, HF⟩
  iapply (wait_move I K c 2 2 (by rfl) 0 (mayWait_none c _) (by rfl))
  isplitr; · iexact HR
  isplitl [HO]; · iexact HO
  isplitl [HF]; · iexact HF
  iintro ⟨HO, HF⟩
  iapply (wait_move I K c 2 3 (by rfl) 0 (mayWait_none c _) (by rfl))
  isplitr; · iexact HR
  isplitl [HO]; · iexact HO
  isplitl [HF]; · iexact HF
  iintro ⟨HO, HF⟩
  iapply (wait_move I K c 2 4 (by rfl) 0 (mayWait_none c _) (by rfl))
  isplitr; · iexact HR
  isplitl [HO]; · iexact HO
  isplitl [HF]; · iexact HF
  iintro ⟨HO, HF⟩
  iapply (wait_move I K c 2 5 (by rfl) 0 (mayWait_none c _) (by rfl))
  isplitr; · iexact HR
  isplitl [HO]; · iexact HO
  isplitl [HF]; · iexact HF
  iintro ⟨HO, HF⟩
  iapply (ret_move c _)
  ihave Hk := Hk $$ [HO HF]
  · isplitl [HO]; · iexact HO
    iexact HF
  iapply Hk

end Parts

end Cert.KernelIdeal.Run
-- ==== Proof.KBody.lean ====
/- The whole kernel on one device, and its buffers cut up for the exchange and put together again. -/
module

public import proofs.«01_k».proof.Proof.KParts

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

variable (I : Dev nD → Inp F) (K : GSem nD τ sig → ℕ) (c : Dev nD) (W : Wins)

theorem bind_move {α β : Type} {Q : β → sProp 𝕄} {p : P F α} {k : α → P F β} :
    Wp c p (fun a => Wp c (k a) Q) ⊢ Wp c (p >>= k) Q := by
  show Wp c p (fun a => Wp c (k a) Q) ⊢ wp frame _ _ (p >>= k) Q
  rw [wp_bind]

theorem end_move {α : Type} {Q : α → sProp 𝕄} (r : α) : (|={Set.univ}=> Q r) ⊢ Wp c (pure r) Q := by
  show (|={Set.univ}=> Q r) ⊢ wp frame _ _ (pure r) Q
  rw [wp_pure]

/-- What device `c` puts into its copies to peer `k`: the block of rows, and the duties of both copies. -/
def mine (k : Fin 7) : sProp 𝕄 :=
  iprop(any c (pRow (fwd k c))
    ∗ (dutyTok ER (dCell 0 k c) 0 0 ∗ reached ER (dCell 0 k c) 0 ∗ dutyTok ER (dCell 1 k (fwd k c)) 0 0)
    ∗ (dutyTok ER (dCell 2 k c) 0 0 ∗ reached ER (dCell 2 k c) 0 ∗ dutyTok ER (dCell 3 k (fwd k c)) 0 0))

theorem mine_pay (k : Fin 7) : iprop(mine (F := F) c k ∗ barPay k c) ⊢ iprop(oneTodo (F := F) c k ∗ sendTodo c 2 3 rM k) := by
  unfold mine barPay oneTodo sendTodo
  iintro ⟨⟨Hp, ⟨H0, R0, H1⟩, H2, R2, H3⟩, Hs, Hr, R1, R3⟩
  isplitl [Hp Hs H0 R0 H1 R1]
  · isplitl [Hp]; · iexact Hp
    isplitl [Hs]; · iexact Hs
    isplitl [H0]; · iexact H0
    isplitl [R0]; · iexact R0
    isplitl [H1]; · iexact H1
    iexact R1
  isplitl [Hr]; · iexact Hr
  isplitl [H2]; · iexact H2
  isplitl [R2]; · iexact R2
  isplitl [H3]; · iexact H3
  iexact R3

theorem sep_pair (A B : Fin 7 → sProp 𝕄) : bigSep Finset.univ (fun k => iprop(A k ∗ B k)) = iprop(bigSep Finset.univ A ∗ bigSep Finset.univ B) :=
  bigSep_sep Finset.univ A B

/-- The barrier passed, both exchanges may begin. -/
theorem after_barrier : iprop(bigSep Finset.univ (mine (F := F) c) ∗ bigSep Finset.univ fun k => barPay k c)
    ⊢ iprop(ones (F := F) c 0 ∗ bigSep Finset.univ (sendTodo (F := F) c 2 3 rM)) := by
  unfold ones
  rw [prog_zero, ← sep_pair, ← sep_pair]
  exact bigSep_mono fun k _ => mine_pay c k

def bodyPre (X5 : Vec F S1024x1024 .f32) (Xc : Vec F S1024x1024 .f32) (Y : Vec F S128x1024 .bf16) : sProp 𝕄 :=
  iprop(recs I K ∗ Owes c (O₀ c) ∗ sigs c 0 ∗ cred (tallyAt (barCell c) () 7) ∗ atPos ER (barCell c) 0 ∅ 0
    ∗ holds c W.a0.view fullShare (I c).x ∗ holds c W.a1.view fullShare (I c).wq ∗ holds c W.a2.view fullShare (I c).k
    ∗ holds c W.a3.view fullShare (I c).v ∗ holds c W.a4.view fullShare (I c).wo ∗ holds c W.a5.view fullShare X5
    ∗ holds c cM.view fullShare Xc ∗ holds c bM.view fullShare Y ∗ bigSep Finset.univ (mine c)
    ∗ (bigSep Finset.univ fun k => atPos ER (dCell 0 k c) 0 ∅ 0) ∗ waits I c 1 0
    ∗ (bigSep Finset.univ fun k => atPos ER (dCell 2 k c) 0 ∅ 0) ∗ waits I c 3 0)

def bodyPost : sProp 𝕄 :=
  iprop(Owes c 0 ∗ atPos ER (barCell c) 1 ∅ 0
    ∗ holds c W.a0.view fullShare (I c).x ∗ holds c W.a1.view fullShare (I c).wq ∗ holds c W.a2.view fullShare (I c).k
    ∗ holds c W.a3.view fullShare (I c).v ∗ holds c W.a4.view fullShare (I c).wo ∗ holds c W.a5.view fullShare (outOf I c)
    ∗ holds c cM.view fullShare (ctxOf (I c)) ∗ holds c bM.view (shareDrop fullShare 7) (sentOf I c)
    ∗ waits I c 0 7 ∗ waits I c 1 7 ∗ waits I c 2 7 ∗ waits I c 3 7)

set_option maxHeartbeats 1000000 in
theorem body_run (X5 : Vec F S1024x1024 .f32) (Xc : Vec F S1024x1024 .f32) (Y : Vec F S128x1024 .bf16) {Q : PUnit → sProp 𝕄} :
    iprop(bodyPre I K c W X5 Xc Y ∗ (bodyPost I c W -∗ |={Set.univ}=> Q ⟨⟩))
      ⊢ Wp c (cc0_body (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8) Q := by
  rw [cc0_body_eq_skeleton]
  dsimp only [cc0_body_skel]
  unfold bodyPre O₀
  iintro ⟨⟨#HR, HO, HS, HB, HA, H0, H1, H2, H3, H4, H5, HX, HY, HM, HA0, HW, HA2, HV⟩, Hk⟩
  iapply (bind_move c)
  iapply (part1 I K c W)
  isplitr; · iexact HR
  isplitl [HO]; · iexact HO
  isplitl [HS]; · iexact HS
  iintro ⟨HO, HS⟩ %v2 %v24 %c8
  dsimp (config := { failIfUnchanged := false }) only
  iapply (bind_move c)
  iapply (part2 I K c W _ _ _)
  isplitr; · iexact HR
  isplitl [HO]; · iexact HO
  isplitl [HS]; · iexact HS
  isplitl [HB]; · iexact HB
  isplitl [HA]; · iexact HA
  isplitl [H0]; · iexact H0
  isplitl [H1]; · iexact H1
  isplitl [H2]; · iexact H2
  isplitl [H3]; · iexact H3
  iintro ⟨HO, HA, HG, H0, H1, H2, H3⟩
  dsimp (config := { failIfUnchanged := false }) only
  ihave HP := (after_barrier c) $$ [HM HG]
  · isplitl [HM]; · iexact HM
    iexact HG
  icases HP with ⟨HP, HD⟩
  ihave HX := (ctx_begin c (I c) Xc) $$ HX
  iapply (bind_move c)
  iapply (part3 I c W)
  isplitl [HX]; · iexact HX
  isplitl [H2]; · iexact H2
  isplitl [H3]; · iexact H3
  iintro ⟨HX, H2, H3⟩
  dsimp (config := { failIfUnchanged := false }) only
  iapply (bind_move c)
  iapply (part4 I c W)
  isplitl [HX]; · iexact HX
  isplitl [H2]; · iexact H2
  isplitl [H3]; · iexact H3
  iintro ⟨HX, H2, H3⟩
  dsimp (config := { failIfUnchanged := false }) only
  iapply (bind_move c)
  iapply (part5 I c W)
  isplitl [HX]; · iexact HX
  isplitl [H2]; · iexact H2
  isplitl [H3]; · iexact H3
  iintro ⟨HX, H2, H3⟩
  dsimp (config := { failIfUnchanged := false }) only
  iapply (bind_move c)
  iapply (part6 I c W)
  isplitl [HX]; · iexact HX
  isplitl [H2]; · iexact H2
  isplitl [H3]; · iexact H3
  iintro ⟨HX, H2, H3⟩
  dsimp (config := { failIfUnchanged := false }) only
  iapply (bind_move c)
  iapply (part7 I c W _)
  isplitl [HX]; · iexact HX
  isplitl [H2]; · iexact H2
  isplitl [H3]; · iexact H3
  isplitl [H4]; · iexact H4
  isplitl [HP]; · iexact HP
  iintro ⟨HX, H2, H3, H4, HP⟩ %v229
  dsimp (config := { failIfUnchanged := false }) only
  iapply (bind_move c)
  iapply (part8 I K c W _ _)
  isplitr; · iexact HR
  isplitl [HO]; · iexact HO
  isplitl [HX]; · iexact HX
  isplitl [H4]; · iexact H4
  isplitl [HP]; · iexact HP
  iintro ⟨HO, HX, H4, HP⟩ %w
  dsimp (config := { failIfUnchanged := false }) only
  iapply (bind_move c)
  iapply (part9 I K c W _ _)
  isplitr; · iexact HR
  isplitl [HO]; · iexact HO
  isplitl [HX]; · iexact HX
  isplitl [H4]; · iexact H4
  isplitl [HP]; · iexact HP
  iintro ⟨HO, HX, H4, HP⟩ %w
  dsimp (config := { failIfUnchanged := false }) only
  iapply (bind_move c)
  iapply (part10 I K c W _ _)
  isplitr; · iexact HR
  isplitl [HO]; · iexact HO
  isplitl [HX]; · iexact HX
  isplitl [H4]; · iexact H4
  isplitl [HP]; · iexact HP
  iintro ⟨HO, HX, H4, HP⟩ %w
  dsimp (config := { failIfUnchanged := false }) only
  iapply (bind_move c)
  iapply (part11 I K c W _ _)
  isplitr; · iexact HR
  isplitl [HO]; · iexact HO
  isplitl [HX]; · iexact HX
  isplitl [H4]; · iexact H4
  isplitl [HP]; · iexact HP
  iintro ⟨HO, HX, H4, HP⟩ %w
  dsimp (config := { failIfUnchanged := false }) only
  iapply (bind_move c)
  iapply (part12 I K c W _ _)
  isplitr; · iexact HR
  isplitl [HO]; · iexact HO
  isplitl [HX]; · iexact HX
  isplitl [H4]; · iexact H4
  isplitl [HP]; · iexact HP
  isplitl [HW]; · iexact HW
  iintro ⟨HO, HX, H4, HP, HW⟩ %w %w'
  dsimp (config := { failIfUnchanged := false }) only
  iapply (bind_move c)
  iapply (part13 I K c W _ _)
  isplitr; · iexact HR
  isplitl [HO]; · iexact HO
  isplitl [HW]; · iexact HW
  iintro ⟨HO, HW⟩ %w
  dsimp (config := { failIfUnchanged := false }) only
  iapply (bind_move c)
  iapply (part14 I K c W _ _)
  isplitr; · iexact HR
  isplitl [HO]; · iexact HO
  isplitl [HW]; · iexact HW
  iintro ⟨HO, HW⟩ %w
  dsimp (config := { failIfUnchanged := false }) only
  iapply (bind_move c)
  iapply (part15 I K c W _ _ _)
  isplitr; · iexact HR
  isplitl [HO]; · iexact HO
  isplitl [HW]; · iexact HW
  iintro ⟨HO, HW⟩
  dsimp (config := { failIfUnchanged := false }) only
  iapply (bind_move c)
  iapply (part16 I K c W _ X5 Y)
  isplitr; · iexact HR
  isplitl [HO]; · iexact HO
  isplitl [H5]; · iexact H5
  isplitl [HY]; · iexact HY
  isplitl [HD]; · iexact HD
  iintro ⟨HO, H5, HY, HT⟩ %w %w'
  dsimp (config := { failIfUnchanged := false }) only
  iapply (bind_move c)
  iapply (part17 I K c W _ _ _)
  isplitr; · iexact HR
  isplitl [HO]; · iexact HO
  isplitl [HT]; · iexact HT
  iintro ⟨HO, HT⟩ %w %w'
  dsimp (config := { failIfUnchanged := false }) only
  iapply (bind_move c)
  iapply (part18 I K c W _ _ _)
  isplitr; · iexact HR
  isplitl [HO]; · iexact HO
  isplitl [HT]; · iexact HT
  isplitl [HV]; · iexact HV
  iintro ⟨HO, HT, HV⟩
  dsimp (config := { failIfUnchanged := false }) only
  iapply (bind_move c)
  iapply (part19 I K c W _)
  isplitr; · iexact HR
  isplitl [HO]; · iexact HO
  isplitl [HV]; · iexact HV
  isplitl [H5]; · iexact H5
  iintro ⟨HO, HV, H5⟩ %w
  dsimp (config := { failIfUnchanged := false }) only
  iapply (bind_move c)
  iapply (part20 I K c W _ _)
  isplitr; · iexact HR
  isplitl [HO]; · iexact HO
  isplitl [HV]; · iexact HV
  isplitl [H5]; · iexact H5
  iintro ⟨HO, HV, H5⟩ %w
  dsimp (config := { failIfUnchanged := false }) only
  iapply (bind_move c)
  iapply (part21 I K c W _ _)
  isplitr; · iexact HR
  isplitl [HO]; · iexact HO
  isplitl [HV]; · iexact HV
  isplitl [H5]; · iexact H5
  iintro ⟨HO, HV, H5⟩ %w
  dsimp (config := { failIfUnchanged := false }) only
  ihave HE := (waits_one I c) $$ [HP HA0]
  · isplitl [HP]; · iexact HP
    iexact HA0
  ihave HF := (waits_two I c) $$ [HT HA2]
  · isplitl [HT]; · iexact HT
    iexact HA2
  iapply (bind_move c)
  iapply (part22 I K c W _)
  isplitr; · iexact HR
  isplitl [HO]; · iexact HO
  isplitl [HV]; · iexact HV
  isplitl [H5]; · iexact H5
  isplitl [HE]; · iexact HE
  iintro ⟨HO, HV, H5, HE⟩
  dsimp (config := { failIfUnchanged := false }) only
  iapply (bind_move c)
  iapply (part23 I K c W)
  isplitr; · iexact HR
  isplitl [HO]; · iexact HO
  isplitl [HE]; · iexact HE
  isplitl [HF]; · iexact HF
  iintro ⟨HO, HE, HF⟩
  dsimp (config := { failIfUnchanged := false }) only
  iapply (bind_move c)
  iapply (part24 I K c W)
  isplitr; · iexact HR
  isplitl [HO]; · iexact HO
  isplitl [HF]; · iexact HF
  iintro ⟨HO, HF⟩
  dsimp (config := { failIfUnchanged := false }) only
  iapply (wait_move I K c 2 6 (by rfl) 0 (mayWait_none c _) (by rfl))
  isplitr; · iexact HR
  isplitl [HO]; · iexact HO
  isplitl [HF]; · iexact HF
  iintro ⟨HO, HF⟩
  ihave H5 := (out_done c I) $$ H5
  iapply (end_move c _)
  iapply Hk
  unfold bodyPost
  isplitl [HO]; · iexact HO
  isplitl [HA]; · iexact HA
  isplitl [H0]; · iexact H0
  isplitl [H1]; · iexact H1
  isplitl [H2]; · iexact H2
  isplitl [H3]; · iexact H3
  isplitl [H4]; · iexact H4
  isplitl [H5]; · iexact H5
  isplitl [HX]; · iexact HX
  isplitl [HY]; · iexact HY
  isplitl [HE]; · iexact HE
  isplitl [HW]; · iexact HW
  isplitl [HF]; · iexact HF
  iexact HV

end Cert.KernelIdeal.Run
-- ==== Proof.KBufs.lean ====
/- The scratch buffers cut into the pieces the copies move, and the pieces joined again: the eight blocks of rows of
   the partial products, the eight slots of the two receive buffers, and the shares of the reduced block. -/
module

public import proofs.«01_k».proof.Proof.KBody

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

variable (c : Dev nD)

/-- A family over the devices, as its member at `c` and those at the seven peers of `c`. -/
theorem around (Φ : Dev nD → sProp 𝕄) : bigSep Finset.univ Φ = iprop(Φ c ∗ bigSep Finset.univ fun k => Φ (fwd k c)) := by
  rw [bigSep_univ_at Φ c, show (Finset.univ.erase c) = Finset.univ.map ⟨fun k => fwd k c, fun _ _ h => fwd_inj c h⟩ from by
    revert c; decide, bigSep_map]
  rfl

/-- A family over the eight slots, as the slot no peer uses and the seven of the peers. -/
theorem first_slot (Φ : Fin 8 → sProp 𝕄) : bigSep Finset.univ Φ = iprop(Φ 0 ∗ bigSep Finset.univ fun k : Fin 7 => Φ k.succ) := by
  rw [bigSep_univ_at Φ 0, show (Finset.univ.erase (0 : Fin 8)) = Finset.univ.map (Fin.succEmb 7) from by decide, bigSep_map]
  rfl

/-- The seven peers counted from the other end. -/
theorem backwards (Φ : Fin 7 → sProp 𝕄) : bigSep Finset.univ Φ = bigSep Finset.univ fun k : Fin 7 => Φ k.rev :=
  bigSep_univ_equiv Fin.revPerm Φ

section Pieces

variable {s : Shape} {e : EltTy} {sp : CoreSpace} (M : Memref sig .tc sp s e) (R : Fin 8 → Rect s)
  (hd : ∀ b b', b ≠ b' → Disjoint (R b).set (R b').set) (hc : Finset.univ.biUnion (fun b => (R b).set) = Finset.univ)

include hd in
theorem pieces_disjoint (b b' : Fin 8) (h : b ≠ b') : Disjoint (M.access (R b)).set (M.access (R b')).set := by
  rw [View.set_slice, View.set_slice]
  exact (Finset.disjoint_map _).mpr (hd b b' h)

include hc in
theorem pieces_cover : Finset.univ.biUnion (fun b => (M.access (R b)).set) = M.view.set := by
  rw [show (fun b => (M.access (R b)).set) = fun b => (R b).set.map M.view.emb from funext fun b => View.set_slice _ _]
  unfold View.set
  rw [← hc]
  ext i
  simp only [Finset.mem_biUnion, Finset.mem_univ, true_and, Finset.mem_map]
  constructor
  · rintro ⟨b, x, hx, rfl⟩; exact ⟨x, ⟨b, hx⟩, rfl⟩
  · rintro ⟨x, ⟨b, hx⟩, rfl⟩; exact ⟨b, x, hx, rfl⟩

include hd hc in
/-- A buffer held at some contents is held piece by piece; -/
theorem cut : any (F := F) c M.view ⊢ bigSep Finset.univ fun b => any (F := F) c (M.access (R b)) := by
  have hm (f : Buf (Elt F) (M.view.loc (c : Thread nD τ))) :
      bigSep Finset.univ (fun b => (M.view.loc (c : Thread nD τ) ↦[(M.access (R b)).set]{fullShare} f : sProp 𝕄))
        ⊢ bigSep Finset.univ fun b => any (F := F) c (M.access (R b)) :=
    bigSep_mono fun b _ => by
      unfold any
      exact exists_intro (Φ := fun f => ((M.access (R b)).loc (c : Thread nD τ) ↦[(M.access (R b)).set]{fullShare} f : sProp 𝕄)) f
  unfold any
  iintro ⟨%f, H⟩
  ihave H := (Entails.of_eq (Ring.pointsTo_sub_blocks (fun b => (M.access (R b)).set) (pieces_disjoint M R hd) M.view.set (pieces_cover M R hc) f)) $$ H
  ihave H := (hm f) $$ H
  unfold any
  iexact H

include hd hc in
/-- and held piece by piece it is held at some contents. -/
theorem joined : (bigSep Finset.univ fun b => any (F := F) c (M.access (R b))) ⊢ any (F := F) c M.view := by
  unfold any
  exact Ring.pointsTo_sub_blocks_join_exists (ℓ := M.view.loc (c : Thread nD τ)) (fun b => (M.access (R b)).set) (pieces_disjoint M R hd)
    M.view.set (pieces_cover M R hc) (fun _ => Classical.choice inferInstance)

end Pieces

theorem rows_apart (b b' : Fin 8) (h : b ≠ b') : Disjoint (rowRect b).set (rowRect b').set :=
  Ring.lead_disjoint (s := S1024x1024) 0 128 rowOff S128x1024.size rowInb (fun _ => rfl) rfl b b' h
theorem rows_all : Finset.univ.biUnion (fun b => (rowRect b).set) = Finset.univ :=
  Ring.lead_cover (s := S1024x1024) 0 128 rowOff S128x1024.size rowInb (fun _ => rfl) (by decide) rfl (by decide) rfl

/-- Slot `t` of the eight. -/
abbrev slot (t : Fin 8) : Rect S8x128x1024 := Rect.unit (slotOff t) S1x128x1024.size (slotInb t)
theorem slots_apart (b b' : Fin 8) (h : b ≠ b') : Disjoint (slot b).set (slot b').set :=
  Ring.lead_disjoint (s := S8x128x1024) 0 1 slotOff S1x128x1024.size slotInb (fun b => (Nat.one_mul b.val).symm) rfl b b' h
theorem slots_all : Finset.univ.biUnion (fun b => (slot b).set) = Finset.univ :=
  Ring.lead_cover (s := S8x128x1024) 0 1 slotOff S1x128x1024.size slotInb (fun b => (Nat.one_mul b.val).symm) (by decide) rfl (by decide) rfl

theorem rows_cut : any (F := F) c pM.view ⊢ iprop(any c (pRow c) ∗ bigSep Finset.univ fun k => any (F := F) c (pRow (fwd k c))) := by
  rw [← around c fun r => any (F := F) c (pRow r)]
  exact cut c pM rowRect rows_apart rows_all
theorem rows_joined : iprop(any c (pRow c) ∗ bigSep Finset.univ fun k => any (F := F) c (pRow (fwd k c))) ⊢ any (F := F) c pM.view := by
  rw [← around c fun r => any (F := F) c (pRow r)]
  exact joined c pM rowRect rows_apart rows_all

theorem slots_cut (M : Memref sig .tc .vmem S8x128x1024 .bf16) :
    any (F := F) c M.view ⊢ iprop(any c (M.access (slot 0)) ∗ bigSep Finset.univ fun k => any (F := F) c (M.access (slotRect k))) := by
  rw [← first_slot fun t => any (F := F) c (M.access (slot t))]
  exact cut c M slot slots_apart slots_all
theorem slots_joined (M : Memref sig .tc .vmem S8x128x1024 .bf16) :
    iprop(any c (M.access (slot 0)) ∗ bigSep Finset.univ fun k => any (F := F) c (M.access (slotRect k))) ⊢ any (F := F) c M.view := by
  rw [← first_slot fun t => any (F := F) c (M.access (slot t))]
  exact joined c M slot slots_apart slots_all

/-- The shares of a whole buffer lent at one contents join to the buffer. -/
theorem shares_joined (r : Ref sig .tc) (n : ℕ) (X : Vec F r.ty.shape r.ty.elt) :
    iprop(holds c (View.whole r) (shareDrop fullShare n) X ∗ bigSep Finset.univ fun k => holds (F := F) c (View.whole r) (shareTok fullShare n k) X)
      ⊢ any (F := F) c (View.whole r) := by
  have hw (q : PosShare TreeShare) : holds (F := F) c (View.whole r) q X
      ⊢ ((View.whole r : View sig .tc _ _ _).loc (c : Thread nD τ) ↦[(View.whole r : View sig .tc _ _ _).set]{q} X : sProp 𝕄) := by
    unfold holds
    iintro ⟨%f, %hf, H⟩
    rw [View.read_whole] at hf
    subst hf
    iexact H
  have hm : (bigSep Finset.univ fun k => holds (F := F) c (View.whole r) (shareTok fullShare n k) X)
      ⊢ bigSep Finset.univ fun k => ((View.whole r : View sig .tc _ _ _).loc (c : Thread nD τ) ↦[(View.whole r : View sig .tc _ _ _).set]{shareTok fullShare n k} X : sProp 𝕄) :=
    bigSep_mono fun k _ => hw _
  iintro ⟨H, HT⟩
  ihave H := (hw _) $$ H
  ihave HT := hm $$ HT
  unfold any
  iexists X
  iapply (Transfers.pointsTo_toks_join (ℓ := (View.whole r : View sig .tc _ _ _).loc (c : Thread nD τ)) fullShare n)
  isplitl [H]; · iexact H
  iexact HT

end Cert.KernelIdeal.Run

end
-- ==== Proof.KGhost.lean ====
/- The kernel with its semaphores and scratch buffers as it finds them and leaves them: the semaphores are opened
   before the body, the buffers cut; after the body the buffers are joined, and the semaphores closed at zero. -/
module

public import proofs.«01_k».proof.Proof.KBufs

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

/-! ## The kernel's semaphores -/

/-- Eight semaphores in each of the four families; the first of each is not used. -/
def osem (p : Fin 4 × Fin 8) : SemLoc sig := .dma ⟨6 + 8 * p.1.val + p.2.val, by
  have : sig.nDmaSem = 38 := rfl
  have := p.1.isLt; have := p.2.isLt; omega⟩

theorem osem_succ (j : Fin 4) (k : Fin 7) : osem (j, k.succ) = .dma (dsem j k) := by revert j k; decide
theorem osem_facts : Pipeline.OwnSemFacts spec0 osem := by decide

section Dev

variable (I : Dev nD → Inp F) (K : GSem nD τ sig → ℕ) (c : Dev nD)

def spare : sProp 𝕄 := bigSep Finset.univ fun j : Fin 4 => semVal ((c : Thread nD τ), osem (j, 0)) 0

theorem own_split : (Pipeline.ownSems0 osem c : sProp 𝕄)
    = iprop(spare c ∗ bigSep Finset.univ fun p : Fin 4 × Fin 7 => semVal (dCell p.1 p.2 c) 0) := by
  unfold Pipeline.ownSems0 spare
  rw [bigSep_univ_prod, bigSep_univ_prod, ← bigSep_sep']
  refine bigSep_congr fun j _ => ?_
  rw [first_slot]
  refine congrArg (fun X : sProp 𝕄 => iprop(semVal ((c : Thread nD τ), osem (j, 0)) 0 ∗ X)) (bigSep_congr fun k _ => ?_)
  rw [osem_succ]

/-- A family over the semaphores, as its four parts. -/
theorem families (Φ : Fin 4 → Fin 7 → sProp 𝕄) : (bigSep Finset.univ fun p : Fin 4 × Fin 7 => Φ p.1 p.2)
    = iprop(bigSep Finset.univ (Φ 0) ∗ bigSep Finset.univ (Φ 1) ∗ bigSep Finset.univ (Φ 2) ∗ bigSep Finset.univ (Φ 3)) := by
  rw [bigSep_univ_prod]
  exact bigSep_univ_eq_bigSepL [(0 : Fin 4), 1, 2, 3] (by decide) (by decide) fun j => bigSep Finset.univ (Φ j)

/-- The invariants of all the semaphores, and that the barriers have begun. -/
def names : sProp 𝕄 :=
  iprop((bigSep Finset.univ fun c : Dev nD =>
      iprop(cellInv ER (talkRd I) (K (barCell c)) (barCell c) ∗ reached ER (barCell c) 0))
    ∗ (bigSep Finset.univ fun p : Dev nD × Fin 4 × Fin 7 =>
      cellInv ER (talkRd I) (K (dCell p.2.1 p.2.2 p.1)) (dCell p.2.1 p.2.2 p.1)))

instance names_persistent : BI.Persistent (names I K) := by unfold names; infer_instance

theorem names_recs : iprop(names I K ∗ levAts L lv) ⊢ recs I K := by
  unfold names recs
  iintro ⟨⟨HB, HD⟩, HL⟩
  isplitl [HB]; · iexact HB
  isplitl [HD]; · iexact HD
  iexact HL

/-- The rights to raise that device `c` has: one at each peer's barrier, and for each peer the two sends and the two
    receives they complete. -/
def tokens : sProp 𝕄 :=
  iprop((bigSep Finset.univ fun k : Fin 7 => dutyTok ER (barCell (fwd k c)) 0 k.rev)
    ∗ (bigSep Finset.univ fun k : Fin 7 => dutyTok ER (dCell 0 k c) 0 0)
    ∗ (bigSep Finset.univ fun k : Fin 7 => dutyTok ER (dCell 1 k (fwd k c)) 0 0)
    ∗ (bigSep Finset.univ fun k : Fin 7 => dutyTok ER (dCell 2 k c) 0 0)
    ∗ (bigSep Finset.univ fun k : Fin 7 => dutyTok ER (dCell 3 k (fwd k c)) 0 0))

/-- What is coming to device `c`. -/
def creds : sProp 𝕄 :=
  iprop(cred (tallyAt (barCell c) () 7) ∗ (bigSep Finset.univ fun k : Fin 7 => cred (tallyAt (dCell 1 k c) () N))
    ∗ (bigSep Finset.univ fun k : Fin 7 => cred (tallyAt (dCell 3 k c) () N)))

def linear : sProp 𝕄 :=
  iprop(atPos ER (barCell c) 0 ∅ 0 ∗ (bigSep Finset.univ fun p : Fin 4 × Fin 7 => openTok ER (dCell p.1 p.2 c)) ∗ tokens c)

/-- What the launch keeps for the kernel. -/
def Tk : sProp 𝕄 := iprop((∃ K, names I K ∗ linear c) ∗ creds c)

/-- The same with the semaphores open. -/
def Xk : sProp 𝕄 :=
  iprop((∃ K, recs I K ∗ atPos ER (barCell c) 0 ∅ 0
      ∗ (bigSep Finset.univ fun p : Fin 4 × Fin 7 => iprop(atPos ER (dCell p.1 p.2 c) 0 ∅ 0 ∗ reached ER (dCell p.1 p.2 c) 0)) ∗ tokens c)
    ∗ creds c ∗ spare c)

theorem open_one (p : Fin 4 × Fin 7) : iprop(recs I K ∗ (openTok ER (dCell p.1 p.2 c) ∗ semVal (dCell p.1 p.2 c) 0))
    ⊢ |={Set.univ}=> iprop(atPos ER (dCell p.1 p.2 c) 0 ∅ 0 ∗ reached ER (dCell p.1 p.2 c) 0) := by
  iintro ⟨HR, Ho, Hv⟩
  ihave HI := (recs_dma I K p.1 p.2 c) $$ HR
  iapply (Rounds.cell_open ER (talkRd I) (κ := K (dCell p.1 p.2 c)) (Set.mem_univ _))
  isplitl [HI]; · iexact HI
  isplitl [Ho]; · iexact Ho
  iexact Hv

theorem open_all : iprop(recs I K ∗ (bigSep Finset.univ fun p : Fin 4 × Fin 7 => openTok ER (dCell p.1 p.2 c))
      ∗ (bigSep Finset.univ fun p : Fin 4 × Fin 7 => semVal (dCell p.1 p.2 c) 0))
    ⊢ |={Set.univ}=> bigSep Finset.univ fun p : Fin 4 × Fin 7 => iprop(atPos ER (dCell p.1 p.2 c) 0 ∅ 0 ∗ reached ER (dCell p.1 p.2 c) 0) := by
  iintro ⟨HR, Ho, Hv⟩
  iapply (bigSep_fupd Finset.univ _)
  iapply (bigSep_with_persistent (R := recs I K) (Φ := fun p : Fin 4 × Fin 7 => iprop(openTok ER (dCell p.1 p.2 c) ∗ semVal (dCell p.1 p.2 c) 0))
    (fun p _ => open_one I K c p))
  isplitl [HR]; · iexact HR
  iapply (Entails.of_eq (bigSep_sep' (s := Finset.univ) (fun p : Fin 4 × Fin 7 => (openTok ER (dCell p.1 p.2 c) : sProp 𝕄))
    (fun p : Fin 4 × Fin 7 => semVal (dCell p.1 p.2 c) 0)).symm)
  isplitl [Ho]; · iexact Ho
  iexact Hv

theorem close_one (p : Fin 4 × Fin 7) : iprop(recs I K ∗ atPos ER (dCell p.1 p.2 c) 1 ∅ 0) ⊢ |={Set.univ}=> semVal (dCell p.1 p.2 c) 0 := by
  iintro ⟨HR, Ha⟩
  ihave HI := (recs_dma I K p.1 p.2 c) $$ HR
  iapply (Rounds.cell_close ER (talkRd I) (κ := K (dCell p.1 p.2 c)) (Set.mem_univ _) id (duties_later I _))
  isplitl [HI]; · iexact HI
  iexact Ha

theorem close_bar : iprop(recs I K ∗ atPos ER (barCell c) 1 ∅ 0) ⊢ |={Set.univ}=> semVal (barCell c) 0 := by
  iintro ⟨HR, Ha⟩
  ihave HI := (recs_bar I K c) $$ HR
  icases HI with ⟨HI, -⟩
  iapply (Rounds.cell_close ER (talkRd I) (κ := K (barCell c)) (Set.mem_univ _) id (duties_later I _))
  isplitl [HI]; · iexact HI
  iexact Ha

theorem close_all : iprop(recs I K ∗ bigSep Finset.univ fun p : Fin 4 × Fin 7 => atPos ER (dCell p.1 p.2 c) 1 ∅ 0)
    ⊢ |={Set.univ}=> bigSep Finset.univ fun p : Fin 4 × Fin 7 => semVal (dCell p.1 p.2 c) 0 := by
  iintro ⟨HR, Ha⟩
  iapply (bigSep_fupd Finset.univ _)
  iapply (bigSep_with_persistent (R := recs I K) (Φ := fun p : Fin 4 × Fin 7 => atPos ER (dCell p.1 p.2 c) 1 ∅ 0) (fun p _ => close_one I K c p))
  isplitl [HR]; · iexact HR
  iexact Ha

theorem opened : iprop(Tk I c ∗ Pipeline.ownSems0 osem c ∗ levAts L lv) ⊢ |={Set.univ}=> Xk I c := by
  rw [own_split]
  unfold Tk linear Xk
  iintro ⟨⟨⟨%K, #HN, Ha, Ho, Ht⟩, Hc⟩, ⟨Hs, Hv⟩, #HL⟩
  ihave #HR := (names_recs I K) $$ [HN HL]
  · isplitl [HN] <;> iassumption
  imod (open_all I K c) $$ [HR Ho Hv] with H
  · isplitl [HR]; · iexact HR
    isplitl [Ho] <;> iassumption
  imodintro
  isplitl [Ha H Ht]
  · iexists K
    isplitr; · iexact HR
    isplitl [Ha]; · iexact Ha
    isplitl [H]; · iexact H
    iexact Ht
  isplitl [Hc] <;> iassumption

/-! ## The scratch buffers -/

def bufs : sProp 𝕄 := iprop(any (F := F) c cM.view ∗ any (F := F) c pM.view ∗ any (F := F) c stM.view ∗ any (F := F) c bM.view ∗ any (F := F) c rM.view)

theorem any_whole (r : Ref sig .tc) : any (F := F) c (View.whole r) = iprop(∃ f : Buf (Elt F) ((c : Thread nD τ).loc r), ((c : Thread nD τ).loc r) ↦{fullShare} f) := by
  unfold any
  rw [View.set_whole]

theorem bufs_eq : (Pipeline.scopedRest spec0 c : sProp 𝕄) = bufs c := by
  rw [scopedRest0_eq]
  unfold bufs
  rw [show cM.view = View.whole cc0_scratch0 from rfl, show pM.view = View.whole cc0_scratch1 from rfl, show stM.view = View.whole cc0_scratch2 from rfl,
    show bM.view = View.whole cc0_scratch3 from rfl, show rM.view = View.whole cc0_scratch4 from rfl]
  rw [any_whole, any_whole, any_whole, any_whole, any_whole]

theorem holds_of_any {sp : Space} {s : Shape} {e : EltTy} (v : View sig .tc sp s e) : any (F := F) c v ⊢ iprop(∃ X, holds c v fullShare X) := by
  unfold any holds
  iintro ⟨%f, H⟩
  iexists _; iexists f
  isplitr; · ipureintro; rfl
  iexact H

/-! ## Making the body's start -/

theorem sigs_start : iprop((bigSep Finset.univ fun k : Fin 7 => dutyTok ER (barCell (fwd k c)) 0 k.rev)
      ∗ (bigSep Finset.univ fun k => any (F := F) c (stSlot k)) ∗ (bigSep Finset.univ fun k => any (F := F) c (rSlot k))
      ∗ (bigSep Finset.univ fun k : Fin 7 => reached ER (dCell 1 k c) 0) ∗ bigSep Finset.univ fun k : Fin 7 => reached ER (dCell 3 k c) 0)
    ⊢ sigs c 0 := by
  unfold sigs sigTodo
  rw [prog_zero, sep_pair, sep_pair, sep_pair, sep_pair, backwards fun k => any (F := F) c (stSlot k), backwards fun k => any (F := F) c (rSlot k),
    backwards fun k => reached ER (dCell 1 k c) 0, backwards fun k => reached ER (dCell 3 k c) 0]

theorem mine_start : iprop((bigSep Finset.univ fun k => any (F := F) c (pRow (fwd k c)))
      ∗ ((bigSep Finset.univ fun k : Fin 7 => dutyTok ER (dCell 0 k c) 0 0) ∗ (bigSep Finset.univ fun k : Fin 7 => reached ER (dCell 0 k c) 0)
        ∗ (bigSep Finset.univ fun k : Fin 7 => dutyTok ER (dCell 1 k (fwd k c)) 0 0))
      ∗ ((bigSep Finset.univ fun k : Fin 7 => dutyTok ER (dCell 2 k c) 0 0) ∗ (bigSep Finset.univ fun k : Fin 7 => reached ER (dCell 2 k c) 0)
        ∗ (bigSep Finset.univ fun k : Fin 7 => dutyTok ER (dCell 3 k (fwd k c)) 0 0)))
    ⊢ bigSep Finset.univ (mine c) := by
  unfold mine
  rw [sep_pair, sep_pair, sep_pair, sep_pair, sep_pair, sep_pair]

theorem waits_start (j : Fin 4) : iprop((bigSep Finset.univ fun k : Fin 7 => cred (tallyAt (dCell j k c) () N)) ∗ bigSep Finset.univ fun k : Fin 7 => atPos ER (dCell j k c) 0 ∅ 0)
    ⊢ waits I c j 0 := by
  unfold waits waitTodo
  rw [prog_zero, sep_pair]

theorem waits_end (j : Fin 4) : waits I c j 7 = iprop((bigSep Finset.univ fun k : Fin 7 => dmaPay I j k c) ∗ bigSep Finset.univ fun k : Fin 7 => atPos ER (dCell j k c) 1 ∅ 0) := by
  unfold waits waitDone
  rw [prog_seven, sep_pair]

end Dev

end Cert.KernelIdeal.Run

end
-- ==== Proof.KWhole.lean ====
/- The kernel from what the launch keeps for it: its semaphores open, its scratch buffers at any contents; and back,
   with the semaphores at zero again and the scratch buffers whole. -/
module

public import proofs.«01_k».proof.Proof.KGhost

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

variable (I : Dev nD → Inp F) (K : GSem nD τ sig → ℕ) (c : Dev nD) (W : Wins)

/-- The six blocks the kernel works on. -/
def blocks (X5 : Vec F S1024x1024 .f32) : sProp 𝕄 :=
  iprop(holds c W.a0.view fullShare (I c).x ∗ holds c W.a1.view fullShare (I c).wq ∗ holds c W.a2.view fullShare (I c).k
    ∗ holds c W.a3.view fullShare (I c).v ∗ holds c W.a4.view fullShare (I c).wo ∗ holds c W.a5.view fullShare X5)

/-- What the body does not use: its own block of the partial rows, a slot of each receive buffer, four semaphores. -/
def unused : sProp 𝕄 :=
  iprop(any (F := F) c (pRow c) ∗ any (F := F) c (stM.access (slot 0)) ∗ any (F := F) c (rM.access (slot 0)) ∗ spare c)

theorem start (X5 : Vec F S1024x1024 .f32) : iprop(bufs (F := F) c ∗ Xk I c ∗ Owes c (O₀ c) ∗ blocks I c W X5)
    ⊢ iprop(∃ K Xc Y, recs I K ∗ bodyPre I K c W X5 Xc Y ∗ unused c) := by
  unfold bufs Xk blocks unused bodyPre tokens creds
  iintro ⟨⟨HX, HP, HS, HY, HR⟩, ⟨⟨%K, #HN, HA, HC, T, T0, T1, T2, T3⟩, ⟨CB, C1, C3⟩, Hs⟩, HO, H0, H1, H2, H3, H4, H5⟩
  ihave HX := (holds_of_any c _) $$ HX
  icases HX with ⟨%Xc, HX⟩
  ihave HY := (holds_of_any c _) $$ HY
  icases HY with ⟨%Y, HY⟩
  ihave HP := (rows_cut c) $$ HP
  icases HP with ⟨HP0, HP⟩
  ihave HS := (slots_cut c stM) $$ HS
  icases HS with ⟨HS0, HS⟩
  ihave HR := (slots_cut c rM) $$ HR
  icases HR with ⟨HR0, HR⟩
  ihave HC := (Entails.of_eq (bigSep_sep' Finset.univ (fun p : Fin 4 × Fin 7 => (atPos ER (dCell p.1 p.2 c) 0 ∅ 0 : sProp 𝕄))
    fun p : Fin 4 × Fin 7 => reached ER (dCell p.1 p.2 c) 0)) $$ HC
  icases HC with ⟨HA', HE⟩
  ihave HA' := (Entails.of_eq (families fun j k => (atPos ER (dCell j k c) 0 ∅ 0 : sProp 𝕄))) $$ HA'
  icases HA' with ⟨A0, A1, A2, A3⟩
  ihave HE := (Entails.of_eq (families fun j k => (reached ER (dCell j k c) 0 : sProp 𝕄))) $$ HE
  icases HE with ⟨E0, E1, E2, E3⟩
  iexists K; iexists Xc; iexists Y
  isplitr; · iexact HN
  isplitr [HP0 HS0 HR0 Hs]
  · isplitr; · iexact HN
    isplitl [HO]; · iexact HO
    isplitl [T HS HR E1 E3]
    · iapply (sigs_start c)
      isplitl [T]; · iexact T
      isplitl [HS]; · iexact HS
      isplitl [HR]; · iexact HR
      isplitl [E1]; · iexact E1
      iexact E3
    isplitl [CB]; · iexact CB
    isplitl [HA]; · iexact HA
    isplitl [H0]; · iexact H0
    isplitl [H1]; · iexact H1
    isplitl [H2]; · iexact H2
    isplitl [H3]; · iexact H3
    isplitl [H4]; · iexact H4
    isplitl [H5]; · iexact H5
    isplitl [HX]; · iexact HX
    isplitl [HY]; · iexact HY
    isplitl [HP T0 E0 T1 T2 E2 T3]
    · iapply (mine_start c)
      isplitl [HP]; · iexact HP
      isplitl [T0 E0 T1]
      · isplitl [T0]; · iexact T0
        isplitl [E0]; · iexact E0
        iexact T1
      isplitl [T2]; · iexact T2
      isplitl [E2]; · iexact E2
      iexact T3
    isplitl [A0]; · iexact A0
    isplitl [C1 A1]
    · iapply (waits_start I c 1)
      isplitl [C1]; · iexact C1
      iexact A1
    isplitl [A2]; · iexact A2
    iapply (waits_start I c 3)
    isplitl [C3]; · iexact C3
    iexact A3
  isplitl [HP0]; · iexact HP0
  isplitl [HS0]; · iexact HS0
  isplitl [HR0]; · iexact HR0
  iexact Hs

/-- A slot of a receive buffer, held, is held at some contents. -/
theorem slots_any (M : Memref sig .tc .vmem S8x128x1024 .bf16) (X : Fin 7 → Vec F S1x128x1024 .bf16) :
    (bigSep Finset.univ fun k => holds (F := F) c (M.access (slotRect k)) fullShare (X k))
      ⊢ bigSep Finset.univ fun k => any (F := F) c (M.access (slotRect k)) :=
  bigSep_mono fun k _ => holds_any c _ _

theorem finish : iprop(recs I K ∗ bodyPost I c W ∗ unused c)
    ⊢ |={Set.univ}=> iprop(bufs (F := F) c ∗ Pipeline.ownSems0 osem c ∗ semVal (barCell c) 0 ∗ Owes c 0 ∗ blocks I c W (outOf I c)) := by
  rw [own_split]
  unfold bodyPost unused bufs blocks
  rw [waits_end, waits_end, waits_end, waits_end]
  unfold dmaPay
  iintro ⟨#HN, ⟨HO, HA, H0, H1, H2, H3, H4, H5, HX, HY, ⟨D0, A0⟩, ⟨D1, A1⟩, ⟨D2, A2⟩, D3, A3⟩, HP0, HS0, HR0, Hs⟩
  imod (close_bar I K c) $$ [HA] with HB
  · isplitr; · iexact HN
    iexact HA
  imod (close_all I K c) $$ [A0 A1 A2 A3] with HV
  · isplitr; · iexact HN
    iapply (Entails.of_eq (families fun j k => (atPos ER (dCell j k c) 1 ∅ 0 : sProp 𝕄)).symm)
    isplitl [A0]; · iexact A0
    isplitl [A1]; · iexact A1
    isplitl [A2]; · iexact A2
    iexact A3
  ihave HX := (holds_any c _ _) $$ HX
  ihave HY := (shares_joined c cc0_scratch3 7 (sentOf I c)) $$ [HY D2]
  · isplitl [HY]; · iexact HY
    iexact D2
  ihave HP := (rows_joined c) $$ [HP0 D0]
  · isplitl [HP0]; · iexact HP0
    iexact D0
  ihave D1 := (slots_any c stM (fun k => recvVal I k c)) $$ D1
  ihave HS := (slots_joined c stM) $$ [HS0 D1]
  · isplitl [HS0]; · iexact HS0
    iexact D1
  ihave D3 := (slots_any c rM (fun k => gotVal I k c)) $$ D3
  ihave HR := (slots_joined c rM) $$ [HR0 D3]
  · isplitl [HR0]; · iexact HR0
    iexact D3
  imodintro
  isplitl [HX HY HP HS HR]
  · isplitl [HX]; · iexact HX
    isplitl [HP]; · iexact HP
    isplitl [HS]; · iexact HS
    isplitl [HY]; · iexact HY
    iexact HR
  isplitl [Hs HV]
  · isplitl [Hs]; · iexact Hs
    iexact HV
  isplitl [HB]; · iexact HB
  isplitl [HO]; · iexact HO
  isplitl [H0]; · iexact H0
  isplitl [H1]; · iexact H1
  isplitl [H2]; · iexact H2
  isplitl [H3]; · iexact H3
  isplitl [H4]; · iexact H4
  iexact H5

/-- The kernel's body from the launch's holdings to the semaphores at zero and the result in place. -/
theorem whole_run (X5 : Vec F S1024x1024 .f32) {Q : PUnit → sProp 𝕄} :
    iprop((bufs (F := F) c ∗ Xk I c ∗ Owes c (O₀ c) ∗ blocks I c W X5)
      ∗ ((bufs (F := F) c ∗ Pipeline.ownSems0 osem c ∗ semVal (barCell c) 0 ∗ Owes c 0 ∗ blocks I c W (outOf I c)) -∗ Q ⟨⟩))
      ⊢ Wp c (cc0_body (F := F) W.a0 W.h0 W.a1 W.h1 W.a2 W.h2 W.a3 W.h3 W.a4 W.h4 W.a5 W.h5
      cM (Memref.isWhole_whole _) pM (Memref.isWhole_whole _) stM (Memref.isWhole_whole _) bM (Memref.isWhole_whole _) rM (Memref.isWhole_whole _)
      cc0_scratch5 cc0_scratch6 cc0_scratch7 cc0_scratch8) Q := by
  iintro ⟨HS, Hk⟩
  ihave HS := (start I c W X5) $$ HS
  icases HS with ⟨%K, %Xc, %Y, #HN, HP, HU⟩
  iapply (body_run I K c W X5 Xc Y)
  isplitl [HP]; · iexact HP
  iintro HP
  imod (finish I K c W) $$ [HP HU] with H
  · isplitr; · iexact HN
    isplitl [HP] <;> iassumption
  imodintro
  iapply Hk
  iexact H

end Cert.KernelIdeal.Run

end
-- ==== Proof.KRegion.lean ====
/- The kernel as a step of the program: its six windows are whole arrays, so what it is handed is what the arrays
   hold and what it leaves is the array of the result. -/
module

public import proofs.«01_k».proof.Proof.KWhole
public import Idealize.ShloMosaic.Lib.Pipeline.FrameBody

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

variable (m : (ℓ : Loc nD τ sig) → Buf (Elt F) ℓ)

/-- What the kernel is handed on each device. -/
def inp (c : Dev nD) : Inp F := ⟨V1 m c main_v5, V1 m c main_arg1, V1 m c main_v11, V1 m c main_v17, V1 m c main_arg4⟩

/-- What it leaves. -/
def outs : Outs (F := F) := fun _ r c => if h : r = main_v18 then h ▸ outOf (inp m) c else Classical.choice inferInstance

def left (c : Dev nD) (w : Fin 6) (t : Fin cfg0.N) : (cfg0.win w).block.Idx → Elt F (cfg0.win w).elt :=
  match w with
  | 0 => (inp m c).x
  | 1 => (inp m c).wq
  | 2 => (inp m c).k
  | 3 => (inp m c).v
  | 4 => (inp m c).wo
  | 5 => outOf (inp m) c

/-- The kernel's scratch, semaphores and ghost state, before it and after it. -/
def Φ (c : Dev nD) (n : ℕ) : sProp 𝕄 :=
  if n = 0 then iprop(bufs (F := F) c ∗ Xk (inp m) c ∗ ∃ r, prngReg c r)
  else iprop(bufs (F := F) c ∗ (Pipeline.ownSems0 osem c ∗ semVal (barCell c) 0) ∗ ∃ r, prngReg c r)

def dat (c : Dev nD) : Dat τ (Elt F) Unit ℕ UU ℕ (cfg0 : Cfg sig Λ₀) c where
  A w := V1 m c (Proc.devRef .tc (Pipeline.arrRef spec0 w))
  after w t := left m c w t
  Φ t := Φ m c t.val
  q _ := fullShare
  owed t := if t.val = 0 then O₀ c else 0

def dats (p : Fin 1) (c : Dev nD) : Dat τ (Elt F) Unit ℕ UU ℕ (cfgs p) c := dat m c

/-! ## A window that is a whole array -/

theorem zero_off (n x : ℕ) : 0 * n + 1 * x = x := by omega

theorem blk0 (t : Fin cfg0.N) (f : (⟨S1024x1024, .f32⟩ : BufTy).Contents (Elt F)) : ((cfg0.win 0).blk t).view.read (Elt F) f = f := by
  funext x
  rw [View.read_apply]
  exact congrArg f (funext fun a => Fin.ext (zero_off _ _))

theorem blk1 (t : Fin cfg0.N) (f : (⟨S1024x1024, .f32⟩ : BufTy).Contents (Elt F)) : ((cfg0.win 1).blk t).view.read (Elt F) f = f := by
  funext x
  rw [View.read_apply]
  exact congrArg f (funext fun a => Fin.ext (zero_off _ _))

theorem blk2 (t : Fin cfg0.N) (f : (⟨S1024x8x128, .f32⟩ : BufTy).Contents (Elt F)) : ((cfg0.win 2).blk t).view.read (Elt F) f = f := by
  funext x
  rw [View.read_apply]
  exact congrArg f (funext fun a => Fin.ext (zero_off _ _))

theorem blk3 (t : Fin cfg0.N) (f : (⟨S1024x8x128, .f32⟩ : BufTy).Contents (Elt F)) : ((cfg0.win 3).blk t).view.read (Elt F) f = f := by
  funext x
  rw [View.read_apply]
  exact congrArg f (funext fun a => Fin.ext (zero_off _ _))

theorem blk4 (t : Fin cfg0.N) (f : (⟨S1024x1024, .f32⟩ : BufTy).Contents (Elt F)) : ((cfg0.win 4).blk t).view.read (Elt F) f = f := by
  funext x
  rw [View.read_apply]
  exact congrArg f (funext fun a => Fin.ext (zero_off _ _))

theorem blk5 (t : Fin cfg0.N) (f : (⟨S1024x1024, .f32⟩ : BufTy).Contents (Elt F)) : ((cfg0.win 5).blk t).view.read (Elt F) f = f := by
  funext x
  rw [View.read_apply]
  exact congrArg f (funext fun a => Fin.ext (zero_off _ _))

theorem before0 (c : Dev nD) (t : Fin cfg0.N) (d) : (dat m c).before 0 t d = (inp m c).x := by
  unfold Dat.before
  rw [if_pos (fetch0_0 t)]
  exact blk0 t (inp m c).x

theorem before1 (c : Dev nD) (t : Fin cfg0.N) (d) : (dat m c).before 1 t d = (inp m c).wq := by
  unfold Dat.before
  rw [if_pos (fetch0_1 t)]
  exact blk1 t (inp m c).wq

theorem before2 (c : Dev nD) (t : Fin cfg0.N) (d) : (dat m c).before 2 t d = (inp m c).k := by
  unfold Dat.before
  rw [if_pos (fetch0_2 t)]
  exact blk2 t (inp m c).k

theorem before3 (c : Dev nD) (t : Fin cfg0.N) (d) : (dat m c).before 3 t d = (inp m c).v := by
  unfold Dat.before
  rw [if_pos (fetch0_3 t)]
  exact blk3 t (inp m c).v

theorem before4 (c : Dev nD) (t : Fin cfg0.N) (d) : (dat m c).before 4 t d = (inp m c).wo := by
  unfold Dat.before
  rw [if_pos (fetch0_4 t)]
  exact blk4 t (inp m c).wo

theorem set5 (t : Fin cfg0.N) (i : S1024x1024.Idx) : i ∈ ((cfg0.win 5).blk t).view.set :=
  Finset.mem_map.mpr ⟨i, Finset.mem_univ _, funext fun a => Fin.ext (zero_off _ _)⟩

/-- The result's array at the end. -/
theorem result (c : Dev nD) : (dat m c).arrAt 5 cfg0.N = outOf (inp m) c :=
  (dat m c).arrAt_eq_of_cover 5 (outOf (inp m) c) (fun t _ => (blk5 t (outOf (inp m) c)).symm) fun i => ⟨t0_0, flush0_5 t0_0, set5 t0_0 i⟩

/-- The other arrays are as they were. -/
theorem arrAt_input (c : Dev nD) (w : Fin 6) (h : (cfg0.win w).isOut = false) (n : ℕ) : (dat m c).arrAt w n = V1 m c (Proc.devRef .tc (Pipeline.arrRef spec0 w)) :=
  (dat m c).arrAt_in w h n

theorem outs_out (c : Dev nD) : outs m 2 main_v18 c = outOf (inp m) c := by
  unfold outs
  rw [dif_pos rfl]

theorem V2_out (c : Dev nD) : V2 m (outs m) c main_v18 = outOf (inp m) c := by
  unfold V2
  rw [Function.update_self, outs_out]

/-- Every window's array at the end. -/
theorem arrays_end (c : Dev nD) (w : Fin 6) : (dat m c).arrAt w cfg0.N = V2 m (outs m) c (Proc.devRef .tc (Pipeline.arrRef spec0 w)) := by
  match w with
  | 0 => exact (arrAt_input m c 0 rfl _).trans (V2_of m (outs m) c main_v5 (by decide)).symm
  | 1 => exact (arrAt_input m c 1 rfl _).trans (V2_of m (outs m) c main_arg1 (by decide)).symm
  | 2 => exact (arrAt_input m c 2 rfl _).trans (V2_of m (outs m) c main_v11 (by decide)).symm
  | 3 => exact (arrAt_input m c 3 rfl _).trans (V2_of m (outs m) c main_v17 (by decide)).symm
  | 4 => exact (arrAt_input m c 4 rfl _).trans (V2_of m (outs m) c main_arg4 (by decide)).symm
  | 5 => exact (result m c).trans (V2_out m c).symm

/-- The staging buffers the kernel works on. -/
def stages (t : Fin cfg0.N) : Wins where
  a0 := st0_0 t
  h0 := hstage0_0 0
  a1 := st0_1 t
  h1 := hstage0_1 0
  a2 := st0_2 t
  h2 := hstage0_2 0
  a3 := st0_3 t
  h3 := hstage0_3 0
  a4 := st0_4 t
  h4 := hstage0_4 0
  a5 := st0_5 t
  h5 := hstage0_5 0

theorem first_point (t : Fin cfg0.N) : t.castSucc.val = 0 := by
  have := t.isLt
  have e : (cfg0 : Cfg sig Λ₀).N = 1 := N_0
  show t.val = 0
  omega

theorem owes_in (c : Dev nD) (t : Fin cfg0.N) : (dat m c).owesAt () t.castSucc ⊢ Owes (F := F) c (O₀ c) := by
  have h0 : (dat m c).owed t.castSucc = O₀ c := if_pos (first_point t)
  unfold Dat.owesAt Pipeline.owesWithin Owes
  rw [h0]
  iintro ⟨%W, -, H⟩
  iexists W; iexact H

theorem owes_out (c : Dev nD) (t : Fin cfg0.N) : Owes (F := F) c 0 ⊢ (dat m c).owesAt () t.succ := by
  have h0 : (dat m c).owed t.succ = 0 := by
    show (if t.val + 1 = 0 then O₀ c else 0) = 0
    rw [if_neg (Nat.succ_ne_zero t.val)]
  unfold Dat.owesAt Pipeline.owesWithin Owes Dat.bound
  rw [h0]
  iintro ⟨%W, H⟩
  iexists W
  isplitr; · ipureintro; exact fun _ _ => Or.inl trivial
  iexact H

theorem enter (c : Dev nD) (t : Fin cfg0.N) : (dat m c).Φ t.castSucc ⊢ iprop(bufs (F := F) c ∗ Xk (inp m) c ∗ ∃ r, prngReg c r) := by
  show Φ m c t.castSucc.val ⊢ _
  unfold Φ
  rw [if_pos (first_point t)]

theorem leave (c : Dev nD) (t : Fin cfg0.N) :
    iprop(bufs (F := F) c ∗ (Pipeline.ownSems0 osem c ∗ semVal (barCell c) 0) ∗ ∃ r, prngReg c r) ⊢ (dat m c).Φ t.succ := by
  show _ ⊢ Φ m c (t.val + 1)
  unfold Φ
  rw [if_neg (Nat.succ_ne_zero t.val)]

theorem owns_holds {sp : Space} {s : Shape} {e : EltTy} (c : Dev nD) (M : Memref sig .tc sp s e) (q : PosShare TreeShare) (X : Vec F s e) :
    (owns (c : Thread nD τ) M q X : sProp 𝕄) = holds c M.view q X := by
  unfold owns holds
  rfl

theorem blocks_eq (c : Dev nD) (t : Fin cfg0.N) (X5 : Vec F S1024x1024 .f32) : blocks (inp m) c (stages t) X5
    = iprop(owns (c : Thread nD τ) (st0_0 t) fullShare (inp m c).x ∗ owns (c : Thread nD τ) (st0_1 t) fullShare (inp m c).wq
      ∗ owns (c : Thread nD τ) (st0_2 t) fullShare (inp m c).k ∗ owns (c : Thread nD τ) (st0_3 t) fullShare (inp m c).v
      ∗ owns (c : Thread nD τ) (st0_4 t) fullShare (inp m c).wo ∗ owns (c : Thread nD τ) (st0_5 t) fullShare X5) := by
  simp only [owns_holds]
  rfl

/-- What the kernel is handed at its one point, -/
def before (c : Dev nD) (t : Fin cfg0.N) : sProp 𝕄 :=
  iprop((dat m c).Φ t.castSucc ∗ (dat m c).owesAt () t.castSucc
      ∗ (∃ d, owns (c : Thread nD τ) (st0_0 t) fullShare ((dat m c).before 0 t d)) ∗ (∃ d, owns (c : Thread nD τ) (st0_1 t) fullShare ((dat m c).before 1 t d))
      ∗ (∃ d, owns (c : Thread nD τ) (st0_2 t) fullShare ((dat m c).before 2 t d)) ∗ (∃ d, owns (c : Thread nD τ) (st0_3 t) fullShare ((dat m c).before 3 t d))
      ∗ (∃ d, owns (c : Thread nD τ) (st0_4 t) fullShare ((dat m c).before 4 t d)) ∗ (∃ d, owns (c : Thread nD τ) (st0_5 t) fullShare ((dat m c).before 5 t d)))

/-- and what it hands back. -/
def after (c : Dev nD) (t : Fin cfg0.N) : sProp 𝕄 :=
  iprop((dat m c).Φ t.succ ∗ (dat m c).owesAt () t.succ
      ∗ owns (c : Thread nD τ) (st0_0 t) fullShare ((dat m c).after 0 t) ∗ owns (c : Thread nD τ) (st0_1 t) fullShare ((dat m c).after 1 t)
      ∗ owns (c : Thread nD τ) (st0_2 t) fullShare ((dat m c).after 2 t) ∗ owns (c : Thread nD τ) (st0_3 t) fullShare ((dat m c).after 3 t)
      ∗ owns (c : Thread nD τ) (st0_4 t) fullShare ((dat m c).after 4 t) ∗ owns (c : Thread nD τ) (st0_5 t) fullShare ((dat m c).after 5 t))

theorem point_run (c : Dev nD) (t : Fin cfg0.N) : before m c t ⊢ Wp c (bodyAt0 t) fun _ => after m c t := by
  unfold before after
  simp only [before0, before1, before2, before3, before4]
  iintro ⟨HΦ, HO, ⟨%d0, H0⟩, ⟨%d1, H1⟩, ⟨%d2, H2⟩, ⟨%d3, H3⟩, ⟨%d4, H4⟩, %d5, H5⟩
  ihave HΦ := (enter m c t) $$ HΦ
  icases HΦ with ⟨HB, HX, HP⟩
  ihave HO := (owes_in m c t) $$ HO
  iapply (whole_run (inp m) c (stages t) ((dat m c).before 5 t d5))
  isplitl [HB HX HO H0 H1 H2 H3 H4 H5]
  · isplitl [HB]; · iexact HB
    isplitl [HX]; · iexact HX
    isplitl [HO]; · iexact HO
    rw [blocks_eq]
    isplitl [H0]; · iexact H0
    isplitl [H1]; · iexact H1
    isplitl [H2]; · iexact H2
    isplitl [H3]; · iexact H3
    isplitl [H4]; · iexact H4
    iexact H5
  iintro ⟨HB, HS, Hb, HO, HW⟩
  isplitl [HB HS Hb HP]
  · iapply (leave m c t)
    isplitl [HB]; · iexact HB
    isplitl [HS Hb]
    · isplitl [HS] <;> iassumption
    iexact HP
  isplitl [HO]; · iapply (owes_out m c t) $$ HO
  ihave HW := (Entails.of_eq (blocks_eq m c t (outOf (inp m) c))) $$ HW
  iexact HW

theorem row (t : Fin cfg0.N) : defs₀ (F := F) .tc cfg0.body (cfg0.bodyArgs t (cfg0.slots t)) = bodyAt0 t := by
  unfold defs₀; rw [Defs.onTc_tc]

/-- The kernel meets its obligation. -/
theorem body_ok (c : Dev nD) : BodyObligation (dat m c) (defs₀ (F := F)) 𝒱₀ () Set.univ := fun t => by
  rw [bigSep_W0, bigSep_W0, row]
  exact triple_restated (point_run m c t) rfl .rfl fun _ => .rfl

end Cert.KernelIdeal.Run

end
-- ==== Proof.KReg.lean ====
/- The kernel between the two stretches of the program: the arrays it is handed and the arrays it leaves, with what
   each device still owes. -/
module

public import proofs.«01_k».proof.Proof.KRegion

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

variable (m : (ℓ : Loc nD τ sig) → Buf (Elt F) ℓ)

theorem owed_first (c : Dev nD) : (dats m 0 c).owed 0 = O₀ c := by
  show (if (0 : ℕ) = 0 then O₀ c else 0) = O₀ c
  exact if_pos rfl
theorem owed_last (c : Dev nD) : (dats m 0 c).owed (Fin.last (Pipeline.pin (pcfgs (F := F)) adm 0).N) = 0 := by
  show (if (cfg0 : Cfg sig Λ₀).N = 0 then O₀ c else 0) = 0
  rw [show (cfg0 : Cfg sig Λ₀).N = 1 from N_0]
  exact if_neg one_ne_zero

theorem owed_lv (c : Dev nD) (g : GSem nD τ sig) (u : Unit) (h : 0 < O₀ c g u) : g.1.2 = .tc ∧ 0 < lv g u := by
  rcases Nat.add_pos_iff_pos_or_pos.mp (show 0 < (owedTwo c 0 g u + owedOne c 0 g u) + owedBar c 0 g u from h) with h | h
  · rcases Nat.add_pos_iff_pos_or_pos.mp h with h | h
    · have := owedTwo_lv c 0 g u h; exact ⟨this.1, by omega⟩
    · have := owedOne_lv c 0 g u h; exact ⟨this.1, by omega⟩
  · exact owedBar_lv c 0 g u h

theorem stage_sem : ∀ (w : Fin 6) (s : Fin ((cfg0 : Cfg sig Λ₀).win w).nbuf), decode ((((cfg0 : Cfg sig Λ₀).win w).sem s)) = none := by
  decide

theorem stage_lv (c : Dev nD) (w : Fin 6) (s : Fin ((cfg0 : Cfg sig Λ₀).win w).nbuf) :
    lv ((c : Thread nD τ), .dma ((((cfg0 : Cfg sig Λ₀).win w).sem s))) () ≤ 0 := by
  dsimp only [lv]; rw [stage_sem]

theorem cut_ok : Pipeline.LevelCutOwed (pcfgs (F := F)) adm (dats m) () L lv 0 fun _ => 0 where
  hι c w s := by rw [L_tc]; exact Finset.mem_singleton_self _
  hιb c w s := stage_lv c w s
  hD c t g u h := by
    have hO : 0 < O₀ c g u := by
      by_cases ht : t.val = 0
      · rw [show (dats m 0 c).owed t = O₀ c from if_pos ht] at h; exact h
      · rw [show (dats m 0 c).owed t = 0 from if_neg ht] at h; exact absurd h (lt_irrefl 0)
    have := owed_lv c g u hO
    refine ⟨?_, this.2⟩
    unfold L; rw [if_pos this.1]; exact Finset.mem_singleton_self _

/-! ## Entering and leaving -/

theorem reg_in (c : Dev nD) : iprop(Pipeline.scopedRest (Pipeline.pin (pcfgs (F := F)) adm 0).spec c ∗ (∃ r, prngReg c r)
    ∗ StableHlo.held (c.tc : Thread nD τ) ∅ (V1 m c) ∗ Xk (inp m) c) ⊢ (dats m 0 c).Φ 0 := by
  show iprop(Pipeline.scopedRest spec0 c ∗ _) ⊢ Φ m c 0
  unfold Φ
  rw [if_pos rfl, bufs_eq]
  iintro ⟨HB, HP, -, HX⟩
  isplitl [HB]; · iexact HB
  isplitl [HX]; · iexact HX
  iexact HP

theorem reg_out (c : Dev nD) : (dats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (V2 m (outs m) c) ∗ Pipeline.ownSems0 osem c ∗ semVal (barCell c) 0) := by
  show Φ m c (cfg0 : Cfg sig Λ₀).N ⊢ iprop(Pipeline.scopedRest spec0 c ∗ _)
  unfold Φ
  rw [show (cfg0 : Cfg sig Λ₀).N = 1 from N_0, if_neg one_ne_zero, bufs_eq]
  iintro ⟨HB, ⟨HS, Hb⟩, HP⟩
  isplitl [HB]; · iexact HB
  isplitl [HP]; · iexact HP
  isplitr
  · unfold StableHlo.held
    rw [BI.bigSep_empty]
    iempintro
  isplitl [HS]; · iexact HS
  iexact Hb

/-- The buffers the kernel does not touch. -/
abbrev others : Finset (DevRef τ sig) := Pipeline.ucRefs τ sig \ Pipeline.arrRefs (τ := τ) (pcfgs (F := F) 0).spec

theorem out_arr : Proc.devRef .tc main_v18 ∈ Pipeline.arrRefs (τ := τ) (pcfgs (F := F) 0).spec := by
  unfold Pipeline.arrRefs
  rw [Finset.mem_map]
  exact ⟨main_v18, Finset.mem_image.mpr ⟨5, Finset.mem_univ _, rfl⟩, rfl⟩

/-- They hold after it what they held before. -/
theorem others_same (c : Dev nD) (b : DevRef τ sig) (h : b ∈ others (F := F)) : V2 m (outs m) c b = V1 m c b := by
  unfold V2
  rw [Function.update_of_ne]
  rintro rfl
  exact (Finset.mem_sdiff.mp h).2 out_arr

set_option backward.isDefEq.respectTransparency.types false in
def reg : Pipeline.RegionSeg (pcfgs (F := F)) adm (dats m) () defs₀ 𝒱₀ L lv 0 :=
  Pipeline.RegionSeg.ofTalk (pcfgs (F := F)) adm (dats m) () defs₀ 𝒱₀ L lv 0 osem osem_facts
    ∅ others (Finset.empty_subset _) launch0.toP rfl (fun c => (body_ok m c).loose)
    (fun _ => 0) O₀ (fun c => (owed_first m c).trans (zero_add _).symm) (owed_last m) (fun _ => rfl)
    (fun c => (dats m 0 c).share_full fun _ => rfl)
    (V1 m) (V2 m (outs m)) (fun c b hb => others_same m c b (Finset.mem_sdiff.mp hb).1)
    (Tk (inp m)) (fun c => semVal (barCell c) 0) (Xk (inp m)) (fun c => semVal (barCell c) 0)
    (opened (inp m)) (reg_in m) (reg_out m)
    (fun c => by iintro H; imodintro; iexact H)
    (fun _ => 0) (cut_ok m)
    (fun _ => iprop(emp))
    (fun _ _ => rfl) (arrays_end m)

/-- What goes with the buffers up to the kernel, and past it. -/
def E (n : Fin 2) (c : Dev nD) : sProp 𝕄 :=
  if n = 0 then iprop(Tk (inp m) c ∗ (∃ r, prngReg c r) ∗ ∃ W, owes (c : Thread nD τ) (O₀ c) W)
  else iprop(semVal (barCell c) 0 ∗ ∃ W, owes (c : Thread nD τ) (0 : CellTallies nD τ sig Unit) W)

theorem arr_sub : Pipeline.arrRefs (τ := τ) (pcfgs (F := F) 0).spec ⊆ Pipeline.ucRefs τ sig :=
  Pipeline.arrRefs_sub_ucRefs _ (show ∀ w : Fin 6, (Pipeline.arrRef spec0 w).isScoped = false by decide)

theorem reg_pre (c : Dev nD) : iprop(StableHlo.held (c : Thread nD τ) (Pipeline.ucRefs τ sig) (V1 m c) ∗ E m 0 c) ⊢ (reg m).pre c := by
  show _ ⊢ iprop(StableHlo.held (c.tc : Thread nD τ) (Pipeline.arrRefs (τ := τ) (pcfgs (F := F) 0).spec) (V1 m c) ∗ (∃ r, prngReg c r)
    ∗ (StableHlo.held (c.tc : Thread nD τ) others (V1 m c) ∗ emp) ∗ Tk (inp m) c ∗ ∃ Wd, owes (c : Thread nD τ) (0 + O₀ c) Wd)
  rw [zero_add, StableHlo.held_sub_split (c.tc : Thread nD τ) (arr_sub (F := F)) (V1 m c)]
  unfold E
  rw [if_pos rfl]
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c
    ⊢ iprop(StableHlo.held (c : Thread nD τ) (Pipeline.ucRefs τ sig) (V2 m (outs m) c) ∗ E m 1 c) := by
  show iprop(StableHlo.held (c.tc : Thread nD τ) (Pipeline.arrRefs (τ := τ) (pcfgs (F := F) 0).spec) (V2 m (outs m) c) ∗ (∃ r, prngReg c r)
    ∗ (StableHlo.held (c.tc : Thread nD τ) others (V2 m (outs m) c) ∗ emp) ∗ semVal (barCell c) 0
    ∗ ∃ Wd, owes (c : Thread nD τ) (0 : CellTallies nD τ sig Unit) Wd) ⊢ _
  rw [StableHlo.held_sub_split (c.tc : Thread nD τ) (arr_sub (F := F)) (V2 m (outs m) c)]
  unfold E
  rw [if_neg (show ¬ (1 : Fin 2) = 0 by decide)]
  iintro ⟨Ha, -, ⟨Hr, -⟩, Hb, HO⟩
  isplitl [Ha Hr]
  · isplitl [Ha]; · iexact Ha
    iexact Hr
  isplitl [Hb]; · iexact Hb
  iexact HO

end Cert.KernelIdeal.Run

end
-- ==== Proof.KCredit.lean ====
/- What is coming to each device at the launch: the sum of what its peers owe it. -/
module

public import proofs.«01_k».proof.Proof.KReg

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

/-- What is owed to one cell, peer by peer. -/
theorem due_at (g : Fin 7 → GSem nD τ sig) (a : ℕ) (x : GSem nD τ sig) : due g a 0 x () = ∑ k, if x = g k then a else 0 := by
  unfold due
  rw [show (Finset.univ.filter fun k : Fin 7 => 0 ≤ k.val) = Finset.univ from by decide, Finset.sum_apply, Finsupp.finset_sum_apply]
  refine Finset.sum_congr rfl fun k _ => ?_
  rw [tallyAt_apply]
  by_cases h : x = g k
  · rw [if_pos h, if_pos ⟨h, rfl⟩]
  · rw [if_neg h, if_neg fun e => h e.1]

/-- No part of what is owed. -/
theorem due_none (g : Fin 7 → GSem nD τ sig) (a : ℕ) (x : GSem nD τ sig) (h : ∀ k, x ≠ g k) : due g a 0 x () = 0 := by
  rw [due_at]
  exact Finset.sum_eq_zero fun k _ => if_neg (h k)

theorem bar_eq {c d : Dev nD} : barCell c = barCell d ↔ c = d :=
  ⟨fun h => congrArg (fun g : GSem nD τ sig => g.1.1) h, congrArg _⟩

theorem dsem_inj : Function.Injective fun p : Fin 4 × Fin 7 => dsem p.1 p.2 := by decide

theorem dCell_eq {i j : Fin 4} {k l : Fin 7} {c d : Dev nD} : dCell i k c = dCell j l d ↔ i = j ∧ k = l ∧ c = d := by
  constructor
  · intro h
    have hs : dsem i k = dsem j l := by
      have := congrArg Prod.snd h
      exact SemLoc.dma.inj this
    have hp := dsem_inj (a₁ := (i, k)) (a₂ := (j, l)) hs
    exact ⟨congrArg Prod.fst hp, congrArg Prod.snd hp, congrArg (fun g : GSem nD τ sig => g.1.1) h⟩
  · rintro ⟨rfl, rfl, rfl⟩; rfl

theorem bar_ne_dma (c d : Dev nD) (j : Fin 4) (k : Fin 7) : barCell c ≠ dCell j k d := fun h => by
  have := congrArg Prod.snd h
  cases this

theorem fwd_eq {k : Fin 7} {c d : Dev nD} : c = fwd k d ↔ d = bwd k c :=
  ⟨fun h => by rw [h, bwd_fwd], fun h => by rw [h, fwd_bwd]⟩

theorem from_one (j : Fin 4) (k : Fin 7) (c d : Dev nD) :
    due (fun i => dCell j i (fwd i d)) N 0 (dCell j k c) () = if d = bwd k c then N else 0 := by
  rw [due_at, Finset.sum_eq_single k]
  · exact if_congr (dCell_eq.trans ⟨fun h => fwd_eq.mp h.2.2, fun h => ⟨rfl, rfl, fwd_eq.mpr h⟩⟩) rfl rfl
  · exact fun i _ hi => if_neg fun h => hi (dCell_eq.mp h).2.1.symm
  · exact fun h => absurd (Finset.mem_univ k) h

theorem owed_dma (j : Fin 4) (hj : j = 1 ∨ j = 3) (k : Fin 7) (c d : Dev nD) : O₀ d (dCell j k c) () = if d = bwd k c then N else 0 := by
  have hb : owedBar d 0 (dCell j k c) () = 0 := due_none _ _ _ fun i h => bar_ne_dma _ _ _ _ h.symm
  show owedTwo d 0 (dCell j k c) () + owedOne d 0 (dCell j k c) () + owedBar d 0 (dCell j k c) () = _
  rw [hb, add_zero]
  rcases hj with rfl | rfl
  · rw [from_one, due_none _ _ _ fun i h => absurd (dCell_eq.mp h).1 (by decide), zero_add]
  · rw [from_one, due_none _ _ _ fun i h => absurd (dCell_eq.mp h).1 (by decide), add_zero]

theorem owed_bar (c d : Dev nD) : O₀ d (barCell c) () = ∑ k : Fin 7, if d = bwd k c then 1 else 0 := by
  show owedTwo d 0 (barCell c) () + owedOne d 0 (barCell c) () + owedBar d 0 (barCell c) () = _
  rw [due_none _ _ _ fun i h => bar_ne_dma _ _ _ _ h, due_none _ _ _ fun i h => bar_ne_dma _ _ _ _ h, zero_add, zero_add, due_at]
  exact Finset.sum_congr rfl fun k _ => if_congr (bar_eq.trans fwd_eq) rfl rfl

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar c d, Finset.sum_comm]
  rw [Finset.sum_congr rfl fun k _ => (Finset.sum_ite_eq' Finset.univ (bwd k c) fun _ => 1).trans (if_pos (Finset.mem_univ _))]
  rfl

theorem launch_dma (j : Fin 4) (hj : j = 1 ∨ j = 3) (k : Fin 7) (c : Dev nD) :
    tallyOn (dCell j k c) (launchCredit (Pipeline.owing O₀) 0 (dCell j k c)) = (tallyAt (dCell j k c) () N : CellTallies nD τ sig Unit) := by
  unfold tallyAt; refine congrArg _ (Finsupp.ext fun u => ?_); cases u
  rw [Pipeline.launchCredit_owing, Finsupp.single_eq_same, Finset.sum_congr rfl fun d _ => owed_dma j hj k c d,
    Finset.sum_ite_eq' Finset.univ (bwd k c) fun _ => N, if_pos (Finset.mem_univ _)]

def semsOf (j : Fin 4) : Finset (SemLoc sig) := Finset.univ.map ⟨fun k => .dma (dsem j k), fun a b h =>
  congrArg Prod.snd (dsem_inj (a₁ := (j, a)) (a₂ := (j, b)) (SemLoc.dma.inj h))⟩

theorem sems_apart : Disjoint (semsOf 1) (semsOf 3) := by decide

theorem sems_sub : semsOf 1 ∪ semsOf 3 ⊆ Finset.univ.erase (SemLoc.reg barS) := by decide

/-- The units coming to a device. -/
theorem creds_of (c : Dev nD) : (Pipeline.launchCred O₀ c : sProp 𝕄) ⊢ creds c := by
  have one (j : Fin 4) (hj : j = 1 ∨ j = 3) :
      (bigSep (semsOf j) fun sm => (cred (tallyOn ((c : Thread nD τ), sm) (launchCredit (Pipeline.owing O₀) 0 ((c : Thread nD τ), sm))) : sProp 𝕄))
        = bigSep Finset.univ fun k : Fin 7 => cred (tallyAt (dCell j k c) () N) := by
    unfold semsOf
    rw [bigSep_map]
    exact bigSep_congr fun k _ => congrArg cred (launch_dma j hj k c)
  unfold Pipeline.launchCred creds
  rw [bigSep_univ_at _ (SemLoc.reg barS), launch_bar, ← one 1 (Or.inl rfl), ← one 3 (Or.inr rfl)]
  refine sep_mono_right ((bigSep_subset sems_sub).trans ?_)
  exact Entails.of_eq (bigSep_union sems_apart)

end Cert.KernelIdeal.Run

end
-- ==== Proof.KLaunch.lean ====
/- The launch: every semaphore's invariant is allocated, the barriers begun and the others closed, and each device is
   dealt the rights to raise that it will use. -/
module

public import proofs.«01_k».proof.Proof.KCredit

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

variable (m : (ℓ : Loc nD τ sig) → Buf (Elt F) ℓ)

def barEmb : Dev nD ↪ GSem nD τ sig := ⟨fun c => barCell c, fun _ _ h => bar_eq.mp h⟩

def dmaEmb : Dev nD × Fin 4 × Fin 7 ↪ GSem nD τ sig := ⟨fun p => dCell p.2.1 p.2.2 p.1, fun _ _ h => by
  have e := dCell_eq.mp h
  exact Prod.ext e.2.2 (Prod.ext e.1 e.2.1)⟩

abbrev barCells : Finset (GSem nD τ sig) := Finset.univ.map barEmb
abbrev dmaCells : Finset (GSem nD τ sig) := Finset.univ.map dmaEmb

theorem cells_apart : Disjoint (barCells : Finset (GSem nD τ sig)) dmaCells := by
  rw [Finset.disjoint_left]
  rintro g h h'
  obtain ⟨c, -, rfl⟩ := Finset.mem_map.mp h
  obtain ⟨p, -, e⟩ := Finset.mem_map.mp h'
  exact bar_ne_dma _ _ _ _ e.symm

/-- The rights to raise a barrier, seven each, and those to raise the others, one each. -/
def barToks : Finset (GSem nD τ sig × ℕ × Fin 7) := Finset.univ.map ⟨fun p : Dev nD × Fin 7 => (barCell p.1, 0, p.2), fun _ _ h =>
  Prod.ext (bar_eq.mp (congrArg Prod.fst h)) (congrArg (fun t : GSem nD τ sig × ℕ × Fin 7 => t.2.2) h)⟩

def dmaToks : Finset (GSem nD τ sig × ℕ × Fin 7) := Finset.univ.map ⟨fun p : Dev nD × Fin 4 × Fin 7 => (dmaEmb p, 0, 0), fun _ _ h =>
  dmaEmb.injective (congrArg Prod.fst h)⟩

theorem toks_apart : Disjoint barToks dmaToks := by
  rw [Finset.disjoint_left]
  rintro g h h'
  obtain ⟨c, -, rfl⟩ := Finset.mem_map.mp h
  obtain ⟨p, -, e⟩ := Finset.mem_map.mp h'
  exact bar_ne_dma _ _ _ _ (congrArg Prod.fst e).symm

abbrev allToks : Finset (GSem nD τ sig × ℕ × Fin 7) := barToks ∪ dmaToks

/-- A family over two sets apart. -/
theorem both {A : Type} [DecidableEq A] {s t : Finset A} (h : Disjoint s t) (Φ : A → sProp 𝕄) :
    bigSep (s ∪ t) Φ = iprop(bigSep s Φ ∗ bigSep t Φ) := bigSep_union h

/-- A family over devices and peers, in the other order. -/
theorem swapped (Ψ : Fin 7 → Dev nD → sProp 𝕄) :
    (bigSep Finset.univ fun c : Dev nD => bigSep Finset.univ fun k : Fin 7 => Ψ k c)
      = bigSep Finset.univ fun k : Fin 7 => bigSep Finset.univ fun c : Dev nD => Ψ k c := by
  rw [← bigSep_univ_prod fun p : Dev nD × Fin 7 => Ψ p.2 p.1, ← bigSep_univ_prod fun p : Fin 7 × Dev nD => Ψ p.1 p.2]
  exact (bigSep_univ_equiv (Equiv.prodComm (Dev nD) (Fin 7)) fun p : Fin 7 × Dev nD => Ψ p.1 p.2).symm

/-- A family over peers and devices, each peer's part turned round the ring. -/
theorem turned (Ψ : Fin 7 → Dev nD → sProp 𝕄) :
    (bigSep Finset.univ fun c : Dev nD => bigSep Finset.univ fun k : Fin 7 => Ψ k c)
      = bigSep Finset.univ fun c : Dev nD => bigSep Finset.univ fun k : Fin 7 => Ψ k (fwd k c) := by
  rw [swapped, swapped fun k c => Ψ k (fwd k c)]
  exact bigSep_congr fun k _ => bigSep_univ_equiv (turn k) (Ψ k)

theorem bar_toks : (bigSep barToks fun x => (dutyTok ER x.1 x.2.1 x.2.2 : sProp 𝕄))
    = bigSep Finset.univ fun c : Dev nD => bigSep Finset.univ fun k : Fin 7 => dutyTok ER (barCell (fwd k c)) 0 k.rev := by
  unfold barToks
  rw [bigSep_map, bigSep_univ_prod, ← turned fun k c => dutyTok ER (barCell c) 0 k.rev]
  exact bigSep_congr fun c _ => bigSep_univ_equiv Fin.revPerm fun k : Fin 7 => (dutyTok ER (barCell c) 0 k : sProp 𝕄)

theorem dma_toks : (bigSep dmaToks fun x => (dutyTok ER x.1 x.2.1 x.2.2 : sProp 𝕄))
    = bigSep Finset.univ fun c : Dev nD => iprop((bigSep Finset.univ fun k : Fin 7 => dutyTok ER (dCell 0 k c) 0 0)
      ∗ (bigSep Finset.univ fun k : Fin 7 => dutyTok ER (dCell 1 k (fwd k c)) 0 0)
      ∗ (bigSep Finset.univ fun k : Fin 7 => dutyTok ER (dCell 2 k c) 0 0)
      ∗ (bigSep Finset.univ fun k : Fin 7 => dutyTok ER (dCell 3 k (fwd k c)) 0 0)) := by
  unfold dmaToks
  rw [bigSep_map, bigSep_univ_prod, bigSep_sep', bigSep_sep', bigSep_sep',
    ← turned fun k c => dutyTok ER (dCell 1 k c) 0 0, ← turned fun k c => dutyTok ER (dCell 3 k c) 0 0,
    ← bigSep_sep', ← bigSep_sep', ← bigSep_sep']
  exact bigSep_congr fun c _ => families fun j k => (dutyTok ER (dCell j k c) 0 0 : sProp 𝕄)

theorem all_toks : (bigSep allToks fun x => (dutyTok ER x.1 x.2.1 x.2.2 : sProp 𝕄)) ⊢ bigSep Finset.univ fun c : Dev nD => tokens c := by
  unfold tokens
  rw [both toks_apart, bar_toks, dma_toks, ← bigSep_sep']

/-- The ghost state at launch. -/
def u₀ : UU :=
  (initOf (Pipeline.cells (Pipeline.pin (pcfgs (F := F)) adm) cellOf_inj) (Pipeline.launchToks (Pipeline.pin (pcfgs (F := F)) adm) cellOf_inj),
    launchOf barCells dmaCells allToks)

/-- A resource kept whole with device 0. -/
def atZero (X : sProp 𝕄) (c : Dev nD) : sProp 𝕄 := if c = 0 then X else iprop(emp)

theorem gather_zero (X : sProp 𝕄) : bigSep Finset.univ (atZero X) = X := by
  rw [bigSep_univ_at _ 0, bigSep_congr (s := Finset.univ.erase 0) (Ψ := fun _ => (BI.emp : sProp 𝕄))
      fun c hc => by unfold atZero; rw [if_neg (Finset.ne_of_mem_erase hc)]; rfl, BI.bigSep_emp_const]
  unfold atZero
  rw [if_pos rfl]
  exact BI.equiv_iff.mp sep_emp

def G : Dev nD → sProp 𝕄 := atZero (BI.own (ER (launchOf barCells dmaCells allToks)))

theorem ghost_start : (ownU (u₀ (F := F)) : sProp 𝕄) ⊢ |={Set.univ}=> iprop(BI.own (EP (initOf (Pipeline.cells (Pipeline.pin (pcfgs (F := F)) adm) cellOf_inj)
    (Pipeline.launchToks (Pipeline.pin (pcfgs (F := F)) adm) cellOf_inj))) ∗ bigSep Finset.univ (G (F := F))) := by
  unfold u₀ G
  iintro Hu
  ihave H := (ownU_pair _ _) $$ Hu
  icases H with ⟨HP, HX⟩
  imodintro
  isplitl [HP]; · iexact HP
  rw [gather_zero]; iexact HX

theorem sems_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

theorem names_of (K : GSem nD τ sig → ℕ) (I : Dev nD → Inp F) :
    iprop((bigSep (barCells ∪ dmaCells) fun g => cellInv ER (talkRd I) (K g) g) ∗ bigSep barCells fun g => reached ER g 0)
      ⊢ (names I K : sProp 𝕄) := by
  unfold names
  rw [both cells_apart, bigSep_map, bigSep_map, bigSep_map, bigSep_sep']
  iintro ⟨⟨HB, HD⟩, HR⟩
  isplitl [HB HR]
  · isplitl [HB]; · iexact HB
    iexact HR
  iexact HD

theorem pos_of : (bigSep barCells fun g => (atPos ER g 0 ∅ 0 : sProp 𝕄)) ⊢ bigSep Finset.univ fun c : Dev nD => atPos ER (barCell c) 0 ∅ 0 :=
  Entails.of_eq (bigSep_map (s := Finset.univ) barEmb (Φ := fun g : GSem nD τ sig => (atPos ER g 0 ∅ 0 : sProp 𝕄)))

theorem open_of : (bigSep dmaCells fun g => (openTok ER g : sProp 𝕄))
    ⊢ bigSep Finset.univ fun c : Dev nD => bigSep Finset.univ fun p : Fin 4 × Fin 7 => openTok ER (dCell p.1 p.2 c) :=
  Entails.of_eq (by rw [bigSep_map, bigSep_univ_prod]; rfl)

theorem sems_of : (bigSep Finset.univ fun c : Dev nD => (semVal (barCell c) 0 : sProp 𝕄)) ⊢ bigSep barCells fun g => (semVal g 0 : sProp 𝕄) :=
  Entails.of_eq (bigSep_map (s := Finset.univ) barEmb (Φ := fun g : GSem nD τ sig => (semVal g 0 : sProp 𝕄))).symm

/-- What of a device's share at launch is not its semaphores. -/
def share (c : Dev nD) : sProp 𝕄 := iprop(creds c ∗ (∃ r, prngReg c r) ∗ owes (c : Thread nD τ) (O₀ c) ∅)

theorem dealt (K : GSem nD τ sig → ℕ) (c : Dev nD) : iprop(names (inp m) K ∗ (linear c ∗ share c)) ⊢ E m 0 c := by
  unfold E Tk share
  rw [if_pos rfl]
  iintro ⟨HN, HL, HC, HP, HO⟩
  isplitl [HN HL HC]
  · isplitl [HN HL]
    · iexists K
      isplitl [HN]; · iexact HN
      iexact HL
    iexact HC
  isplitl [HP]; · iexact HP
  iexists ∅; iexact HO

theorem shares (ρ : Dev nD → PrngReg) (c : Dev nD) :
    iprop(unscopedSems0 c ∗ owes (c : Thread nD τ) (O₀ c) ∅ ∗ Pipeline.launchCred O₀ c ∗ prngReg c (ρ c) ∗ G (F := F) c)
      ⊢ (iprop(share c ∗ (semVal (barCell c) 0 ∗ G c)) : sProp 𝕄) := by
  unfold share
  rw [sems_eq]
  iintro ⟨HS, HO, HC, HP, HG⟩
  ihave HC := (creds_of (F := F) c) $$ HC
  isplitl [HO HC HP]
  · isplitl [HC]; · iexact HC
    isplitl [HP]; · iexists (ρ c); iexact HP
    iexact HO
  isplitl [HS] <;> iassumption

theorem linears : iprop((bigSep barCells fun g => (atPos ER g 0 ∅ 0 : sProp 𝕄)) ∗ (bigSep dmaCells fun g => openTok ER g)
      ∗ bigSep allToks fun x => dutyTok ER x.1 x.2.1 x.2.2)
    ⊢ bigSep Finset.univ fun c : Dev nD => (linear c : sProp 𝕄) := by
  unfold linear
  rw [bigSep_sep', bigSep_sep']
  iintro ⟨HA, HO, HT⟩
  isplitl [HA]; · iapply pos_of $$ HA
  isplitl [HO]; · iapply open_of $$ HO
  iapply all_toks $$ HT

theorem launch (ρ : Dev nD → PrngReg) :
    iprop((bigSep Finset.univ fun c : Dev nD => iprop(unscopedSems0 c ∗ owes (c : Thread nD τ) (O₀ c) ∅ ∗ Pipeline.launchCred O₀ c ∗ prngReg c (ρ c) ∗ G (F := F) c)) ∗ levAts L lv)
      ⊢ (|={Set.univ}=> bigSep Finset.univ (E m 0) : sProp 𝕄) := by
  iintro ⟨H, -⟩
  ihave H := (show (bigSep Finset.univ fun c : Dev nD => iprop(unscopedSems0 c ∗ owes (c : Thread nD τ) (O₀ c) ∅ ∗ Pipeline.launchCred O₀ c ∗ prngReg c (ρ c) ∗ G (F := F) c))
      ⊢ (bigSep Finset.univ fun c : Dev nD => iprop(share c ∗ (semVal (barCell c) 0 ∗ G c)) : sProp 𝕄) from bigSep_mono fun c _ => shares ρ c) $$ H
  ihave H := (Entails.of_eq (bigSep_sep' (s := Finset.univ) (fun c : Dev nD => (share c : sProp 𝕄)) fun c => iprop(semVal (barCell c) 0 ∗ G c))) $$ H
  icases H with ⟨HB, H⟩
  ihave H := (Entails.of_eq (bigSep_sep' (s := Finset.univ) (fun c : Dev nD => (semVal (barCell c) 0 : sProp 𝕄)) (G (F := F)))) $$ H
  icases H with ⟨Hv, HG⟩
  ihave Hu := (show bigSep Finset.univ (G (F := F)) ⊢ BI.own (ER (launchOf barCells dmaCells allToks)) from
    Entails.of_eq (gather_zero (F := F) (BI.own (ER (launchOf barCells dmaCells allToks))))) $$ HG
  imod (Rounds.fund_launch ER (talkRd (inp m)) cells_apart (fun g _ h => h) allToks) $$ [Hv Hu] with ⟨%K, -, #HI, #HR, HA, HO, HT⟩
  · isplitl [Hv]
    · iapply sems_of $$ Hv
    · iexact Hu
  imodintro
  iapply (bigSep_with_persistent (R := names (inp m) K) (Φ := fun c => iprop(linear c ∗ share c)) fun c _ => dealt m K c)
  isplitr
  · iapply (names_of K (inp m))
    isplitr; · iexact HI
    iexact HR
  iapply (Entails.of_eq (bigSep_sep' (s := Finset.univ) (fun c : Dev nD => (linear c : sProp 𝕄)) share).symm)
  isplitr [HB]
  · iapply linears
    isplitl [HA]; · iexact HA
    isplitl [HO]; · iexact HO
    iexact HT
  · iexact HB

end Cert.KernelIdeal.Run

end
-- ==== Proof.KRun.lean ====
/- The whole run: every execution ends, the arguments are as they were, the result on every device is the kernel's
   array under a leading axis of one, and every semaphore is at zero. -/
module

public import proofs.«01_k».proof.Proof.KLaunch

@[expose] public section

noncomputable section

namespace Cert.KernelIdeal.Run

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Transfers (shareTok shareDrop)
open Cert.KernelIdeal.Gen

variable {F : FTy → Type} [FloatOps F] [Named F]

local notation "𝕄" => MT nD τ sig Unit (Elt F) ℕ UU ℕ

open Idealize.ShloMosaic.Pipeline (Seg)

variable (m : (ℓ : Loc nD τ sig) → Buf (Elt F) ℓ)

/-- What the last stretch leaves in the result. -/
theorem V3_result (c : Dev nD) :
    V3 m (outs m) c main_v19 = broadcastInDim S1x1024x1024 ![1, 2] bcast_S1024x1024_S1x1024x1024_1_2 (outOf (inp m) c) := by
  show StableHlo.after hostOps1 (V2 m (outs m) c) (Proc.devRef .tc main_v19) = _
  rw [show (hostOps1 : List (HloOp τ sig (Elt F))) = [_] from rfl, StableHlo.after_cons, StableHlo.after_nil, StableHlo.unary_result, V2_out]

theorem only_bar : ∀ sm : SemLoc sig, sm.isScoped .tc = false → sm = .reg barS := by decide

/-- What a run ends with. -/
def Ends (s : MemSt nD τ sig (Elt F)) (c : Dev nD) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v19) = broadcastInDim S1x1024x1024 ![1, 2] bcast_S1024x1024_S1x1024x1024_1_2 (outOf (inp m) c)

abbrev At0 (c : Dev nD) : sProp 𝕄 := iprop(StableHlo.held (c : Thread nD τ) (Pipeline.ucRefs τ sig) (V0 m c) ∗ E m 0 c)
abbrev AtEnd (c : Dev nD) : sProp 𝕄 := iprop(StableHlo.held (c : Thread nD τ) (Pipeline.ucRefs τ sig) (V3 m (outs m) c) ∗ semVal (barCell c) 0)

theorem start_at (ρ : Dev nD → PrngReg) :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c)) ∗ levAts L lv)
      ⊢ |={Set.univ}=> bigSep Finset.univ (At0 m) := by
  have split : (bigSep Finset.univ fun c : Dev nD => iprop(unscopedBufs c (fun b => m ((c.tc : Thread nD τ).loc b)) ∗ unscopedSems0 c
        ∗ owes (c.tc : Thread nD τ) (O₀ c) ∅ ∗ Pipeline.launchCred O₀ c ∗ prngReg c (ρ c) ∗ G (F := F) c))
      ⊢ (iprop((bigSep Finset.univ fun c : Dev nD => StableHlo.held (c : Thread nD τ) (Pipeline.ucRefs τ sig) (V0 m c))
          ∗ bigSep Finset.univ fun c : Dev nD => iprop(unscopedSems0 c ∗ owes (c : Thread nD τ) (O₀ c) ∅ ∗ Pipeline.launchCred O₀ c
            ∗ prngReg c (ρ c) ∗ G (F := F) c)) : sProp 𝕄) := by
    rw [← bigSep_sep']
    exact bigSep_mono fun c _ => by
      rw [← Pipeline.unscopedBufs_held (Ix := Unit) (Name := ℕ) (U := UU) (Lvl := ℕ) c (V0 m c)]; exact BI.Entails.refl _
  iintro ⟨H, HL⟩
  ihave H := split $$ H
  icases H with ⟨HB, HR⟩
  imod (launch m ρ) $$ [HR HL] with HE
  · isplitl [HR]; · iexact HR
    iexact HL
  imodintro
  iapply (Entails.of_eq (bigSep_sep' (s := Finset.univ)
    (fun c : Dev nD => (StableHlo.held (c : Thread nD τ) (Pipeline.ucRefs τ sig) (V0 m c) : sProp 𝕄)) (E m 0)).symm)
  isplitl [HB]; · iexact HB
  iexact HE

theorem read_end (c : Dev nD) (s' : Phys nD τ sig (Elt F)) : iprop(AtEnd m c ∗ SI s')
    ⊢ |={Set.univ}=> (iprop(⌜Ends m s'.mem c ∧ s'.mem.sem (barCell c) = 0⌝ ∗ SI s') : sProp 𝕄) := by
  unfold AtEnd StableHlo.held
  iintro ⟨⟨Hh, Hb⟩, HSI⟩
  icombine HSI Hb gives %hb
  ihave Hr := (pointsTo_read_all (Pipeline.ucRefs τ sig) (fun b => ((c : Thread nD τ).1, b)) (V3 m (outs m) c) s') $$ [Hh HSI]
  · isplitl [Hh] <;> iassumption
  icases Hr with ⟨%h, HSI⟩
  imodintro
  isplitr
  · ipureintro
    refine ⟨⟨⟨?_, ?_, ?_, ?_, ?_⟩, ?_⟩, by simpa using hb⟩
    · exact (h (Proc.devRef .tc main_arg0) (Finset.mem_filter.mpr ⟨StableHlo.devRef_mem_tcRefs main_arg0, by decide⟩)).trans (V3_main_arg0 m (outs m) c)
    · exact (h (Proc.devRef .tc main_arg1) (Finset.mem_filter.mpr ⟨StableHlo.devRef_mem_tcRefs main_arg1, by decide⟩)).trans (V3_main_arg1 m (outs m) c)
    · exact (h (Proc.devRef .tc main_arg2) (Finset.mem_filter.mpr ⟨StableHlo.devRef_mem_tcRefs main_arg2, by decide⟩)).trans (V3_main_arg2 m (outs m) c)
    · exact (h (Proc.devRef .tc main_arg3) (Finset.mem_filter.mpr ⟨StableHlo.devRef_mem_tcRefs main_arg3, by decide⟩)).trans (V3_main_arg3 m (outs m) c)
    · exact (h (Proc.devRef .tc main_arg4) (Finset.mem_filter.mpr ⟨StableHlo.devRef_mem_tcRefs main_arg4, by decide⟩)).trans (V3_main_arg4 m (outs m) c)
    · exact (h (Proc.devRef .tc main_v19) (Finset.mem_filter.mpr ⟨StableHlo.devRef_mem_tcRefs main_v19, by decide⟩)).trans (V3_result m c)
  · iexact HSI

theorem leave_main (c : Dev nD) : iprop(StableHlo.held (c : Thread nD τ) (Pipeline.ucRefs τ sig) (V3 m (outs m) c) ∗ E m 1 c)
    ⊢ iprop(AtEnd m c ∗ ∃ W, owes (c.tc : Thread nD τ) (0 : CellTallies nD τ sig Unit) W) := by
  unfold E
  rw [if_neg (show ¬ (1 : Fin 2) = 0 by decide)]
  iintro ⟨Hh, Hb, HO⟩
  isplitr [HO]
  · isplitl [Hh] <;> iassumption
  · iexact HO

set_option backward.isDefEq.respectTransparency.types false in
/-- The run. -/
theorem run_main (ρ : Dev nD → PrngReg) :
    θ_run defs (onTc (τ := τ) (main (F := F))) ⟨m, fun _ => 0, ρ⟩ (fun r => (∀ c : Dev nD, Ends m r.2 c) ∧ r.2.sem = fun _ => 0) :=
  Pipeline.θ_run_regions_kit_dev_sems (pcfgs (F := F)) adm (dats m) () cellOf_inj EP defs₀ 𝒱₀ L lv m ρ main
    (segs m (outs m) 𝒱₀ L lv (E m) () (dats m) (reg m))
    (fun c Q => by
      rewrite [main_chain c, Seg.run_eq_chain,
        show (segs m (outs m) 𝒱₀ L lv (E m) () (dats m) (reg m) c).map Seg.prog = [
          StableHlo.seq (hostOps0 c),
          Prog.lift (.customCall (Pipeline.entry 0) ()),
          StableHlo.seq hostOps1 ] from rfl]
      dsimp (config := { failIfUnchanged := false }) only
      exact .rfl)
    (fun c => by simp only [segs, Seg.pipes_host, Seg.pipes_region, Seg.pipes_nil]; decide)
    O₀ L_of_ne G u₀ ghost_start (T₀ := At0 m) (Tₙ := AtEnd m)
    (hch := fun c => ⟨.rfl, reg_pre m c, reg_post m c, leave_main m c⟩)
    (hinit := start_at m ρ)
    (QY := fun c s => Ends m s c ∧ s.sem (barCell c) = 0)
    (hfin := read_end m)
    (hQ := fun s h hs => ⟨fun c => (h c).1, sem_eq_zero hs fun c sm hsm => by
      obtain rfl := only_bar sm hsm
      exact (h c).2⟩)

end Cert.KernelIdeal.Run

end
-- ==== Proof.Same.lean ====
/- The kernel as it runs on the bits. Its text is that of the kernel on the extended reals, but for the mask's value:
   with the value kept at its bits the two are the same program, so the run of the one is the run of the other. -/
module

public import proofs.«01_k».proof.Defs
public import proofs.«01_k».proof.Proof.KRun
public import proofs.«01_k».proof.Proof.Gen.Kernel

@[expose] public section

noncomputable section

namespace Cert.Proof

open Idealize.ShloMosaic Idealize.SL.Sem

/-- Every named value kept at its bits. -/
@[reducible] def kept : Named Bits := ⟨fun _ _ φ bits => FloatOps.ofBits (F := Bits) φ bits⟩

instance facts_kernel : Cert.Kernel.Facts := Cert.Kernel.Gen.facts
instance facts_ideal : Cert.KernelIdeal.Facts := Cert.KernelIdeal.Gen.facts

theorem same_main : (letI := kept; Cert.KernelIdeal.main (F := Bits)) = Cert.Kernel.main (F := Bits) := rfl

theorem same_body : (letI := kept; Cert.KernelIdeal.defs₀ (F := Bits)) = Cert.Kernel.defs₀ (F := Bits) := by
  refine congrArg (Defs.onTc (Λ := Cert.Kernel.Λ₀)) ?_
  funext l a
  match l, a with
  | 0, (t, s) => rfl

theorem same_defs : (letI := kept; Cert.KernelIdeal.defs (F := Bits)) = Cert.Kernel.defs (F := Bits) :=
  congrArg (Pipeline.defs Cert.Kernel.pcfgs) same_body

theorem frame_kernel : Cert.quiescent_Kernel := fun m ρ _ => by
  letI := kept
  rw [← same_defs, ← same_main]
  exact (θ_run Cert.KernelIdeal.defs _ _).mono (fun r h => ⟨fun c => (h.1 c).1, h.2⟩) (Cert.KernelIdeal.Run.run_main (F := Bits) m ρ)

theorem frame_ideal : Cert.quiescent_KernelIdeal := fun m ρ _ =>
  (θ_run Cert.KernelIdeal.defs _ _).mono (fun r h => ⟨fun c => (h.1 c).1, h.2⟩) (Cert.KernelIdeal.Run.run_main (F := Ideal) m ρ)

end Cert.Proof

end
-- ==== Proof.Rest.lean ====
/- The reference's run ends with its arguments as they were, and the kernel on the extended reals is the kernel with
   the mask's value named. -/
module

public import proofs.«01_k».proof.Defs
public import proofs.«01_k».proof.Proof.Gen.ReferenceIdeal.Run
public import Idealize.ShloMosaic.Lib.Quiescent

@[expose] public section

noncomputable section

namespace Cert.Proof

open Idealize.ShloMosaic Idealize.SL.Sem

instance facts_reference : Cert.ReferenceIdeal.Facts := Cert.ReferenceIdeal.Gen.facts

theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

theorem named : Cert.preserves_Kernel_KernelIdeal :=
  IdealRules.named_const.statement Cert.KernelIdeal.κ "mask" .f32 0xCE6E6B28#32 ⊥ rfl

end Cert.Proof

end
-- ==== Proof.KReads.lean ====
/- What a device's share of the inputs is, in terms of the arguments it starts with. -/
module

public import proofs.«01_k».proof.Proof.KRun
public import Idealize.ShloMosaic.Lib.StableHlo.RunClose
public import Idealize.ShloMosaic.Lib.DynamicIndex
public import Idealize.ShloMosaic.Lib.ValueLayout

@[expose] public section

noncomputable section

namespace Cert.KernelIdeal.Run

open Idealize.ShloMosaic Idealize.ShloMosaic.TcCoe Idealize.SL.Sem Cert.KernelIdeal Cert.KernelIdeal.Gen Idealize.ShloMosaic.StableHlo

variable {F : FTy → Type} [FloatOps F] [Named F]
variable (m : (ℓ : Loc nD τ sig) → Buf (Elt F) ℓ)

/-- The first head of a device, as it is computed: eight times the device's number, wrapped if negative. -/
def headWord (c : Dev nD) : IVec S_ 32 :=
  select (cmpi .slt (muli (Host.remui (Host.divui (constantI S_ 32 (Dev.word c)) (constantI S_ 32 1#32)) (constantI S_ 32 8#32)) (constantI S_ 32 8#32)) (constantI S_ 32 0#32))
    (addi (muli (Host.remui (Host.divui (constantI S_ 32 (Dev.word c)) (constantI S_ 32 1#32)) (constantI S_ 32 8#32)) (constantI S_ 32 8#32)) (constantI S_ 32 64#32))
    (muli (Host.remui (Host.divui (constantI S_ 32 (Dev.word c)) (constantI S_ 32 1#32)) (constantI S_ 32 8#32)) (constantI S_ 32 8#32))

theorem word_div (c : Fin 8) : IntOp.divui .host (BitVec.ofNat 32 c.val) 1#32 = BitVec.ofNat 32 c.val := by revert c; decide

theorem word_mul (c : Fin 8) : IntOp.remui .host (BitVec.ofNat 32 c.val) 8#32 * 8#32 = BitVec.ofNat 32 (8 * c.val) := by revert c; decide

theorem word_head (c : Dev nD) : muli (Host.remui (Host.divui (constantI S_ 32 (Dev.word c)) (constantI S_ 32 1#32)) (constantI S_ 32 8#32)) (constantI S_ 32 8#32)
    = constantI S_ 32 (BitVec.ofNat 32 (8 * c.val)) := by
  funext i
  show IntOp.remui .host (IntOp.divui .host (BitVec.ofNat 32 c.val) 1#32) 8#32 * 8#32 = BitVec.ofNat 32 (8 * c.val)
  rw [word_div c]
  exact word_mul c

theorem headWord_at (c : Dev nD) (i : S_.Idx) : (headWord c i).toInt = ((8 * c.val : ℕ) : ℤ) := by
  have h : c.val < 8 := c.isLt
  unfold headWord
  rw [word_head]
  exact toInt_wrap_ofNat (8 * c.val) (by omega)

theorem read_x (c : Dev nD) : (inp m c).x = shapeCast S1024x1024 (m ((c.tc : Thread nD τ).loc main_arg0)) shapeCasts_S1x1024x1024_S1024x1024 := by
  show StableHlo.after (hostOps0 c) (V0 m c) main_v5 = _
  after_results_simp
  rfl

theorem read_wq (c : Dev nD) : (inp m c).wq = m ((c.tc : Thread nD τ).loc main_arg1) := V1_of m c main_arg1 (by decide)

theorem read_wo (c : Dev nD) : (inp m c).wo = m ((c.tc : Thread nD τ).loc main_arg4) := V1_of m c main_arg4 (by decide)

/-- Where a device's heads start. -/
def firstHead (c : Dev nD) : Fin 3 → ℕ := ![0, 8 * c.val, 0]

theorem firstHead_slices (c : Dev nD) : S1024x64x128.Slices (firstHead c) S1024x8x128 := by revert c; decide

/-- The heads of a device, cut out of all. -/
theorem cutHeads (c : Dev nD) (x : Vec F S1024x64x128 .f32) (z z' : IVec S_ 32) (hz : ∀ i, z i = 0#32) (hz' : ∀ i, z' i = 0#32) :
    Host.dynamicSlice S1024x8x128 x (fun k => ((![z, headWord c, z'] : Fin 3 → IVec S_ 32) k (Shape.Idx.first h_S_)).toInt) sliceFits_S1024x64x128_S1024x8x128
      = extractStridedSlice S1024x8x128 (firstHead c) x (firstHead_slices c) := by
  refine Host.dynamicSlice_eq_extractStridedSlice _ _ _ _ _ (firstHead_slices c) fun a => ?_
  match a with
  | ⟨0, _⟩ => show (z _).toInt = ((0 : ℕ) : ℤ); rw [hz]; rfl
  | ⟨1, _⟩ => exact headWord_at c _
  | ⟨2, _⟩ => show (z' _).toInt = ((0 : ℕ) : ℤ); rw [hz']; rfl

set_option maxHeartbeats 1000000 in
theorem read_k (c : Dev nD) : (inp m c).k = extractStridedSlice S1024x8x128 (firstHead c)
    (shapeCast S1024x64x128 (m ((c.tc : Thread nD τ).loc main_arg2)) shapeCasts_S1x1024x64x128_S1024x64x128) (firstHead_slices c) := by
  rw [← cutHeads c _ (constantI S_ 32 0#32) (constantI S_ 32 0#32) (fun _ => rfl) (fun _ => rfl)]
  show StableHlo.after (hostOps0 c) (V0 m c) main_v11 = _
  after_results_simp_entrywise
  all_goals rfl

set_option maxHeartbeats 1000000 in
theorem read_v (c : Dev nD) : (inp m c).v = extractStridedSlice S1024x8x128 (firstHead c)
    (shapeCast S1024x64x128 (m ((c.tc : Thread nD τ).loc main_arg3)) shapeCasts_S1x1024x64x128_S1024x64x128) (firstHead_slices c) := by
  rw [← cutHeads c _ (constantI S_ 32 0#32) (constantI S_ 32 0#32) (fun _ => rfl) (fun _ => rfl)]
  show StableHlo.after (hostOps0 c) (V0 m c) main_v17 = _
  after_results_simp_entrywise
  all_goals rfl

end Cert.KernelIdeal.Run

end
-- ==== Proof.Attn.lean ====
/- Attention of one head on the extended reals: which positions see which, the scaled scores, the softmax of a row,
   and the weighted sum of the values. -/
module

public import Idealize.ShloMosaic.PureOps.Ideal
public import Idealize.ShloMosaic.PureOps.Vector

@[expose] public section

noncomputable section

namespace Cert.Attn

open Idealize.ShloMosaic
open scoped BigOperators

/-- Whether position `i` sees position `j`: they are near, or one of them is among the first. -/
def sees (i j : Fin 1024) : BitVec 1 :=
  IntOp.ori (IntOp.ori
    (IntOp.cmpi .sle (IntOp.absi (BitVec.ofNat 32 i.val - BitVec.ofNat 32 j.val)) 128#32)
    (IntOp.cmpi .slt (BitVec.ofNat 32 j.val) 32#32))
    (IntOp.cmpi .slt (BitVec.ofNat 32 i.val) 32#32)

/-- The factor of the scores. -/
def scale : EReal := Ideal.ofBits .f32 0x3DB504F3#32

section
variable (q k v : Fin 1024 → Fin 128 → EReal)

/-- The score of a pair of positions, least where the one does not see the other. -/
def score (i j : Fin 1024) : EReal := Scalar.select (sees i j) ((∑ d, q i d * k j d) * scale) ⊥

/-- The largest score of a row. -/
def peak (i : Fin 1024) : EReal := (Finset.univ : Finset (Fin 1024)).fold max ⊥ (score q k i)

/-- The unnormalized weight of a pair. -/
def weight (i j : Fin 1024) : EReal := Ideal.exp (score q k i j - peak q k i)

/-- The sum of a row's weights. -/
def mass (i : Fin 1024) : EReal := ∑ j, weight q k i j

/-- The attention of the head at a position and a coordinate. -/
def attend (i : Fin 1024) (d : Fin 128) : EReal := ∑ j, Ideal.div (weight q k i j) (mass q k i) * v j d
end

/-- Every position sees itself. -/
theorem sees_self (i : Fin 1024) : sees i i = 1#1 := by
  unfold sees
  rw [BitVec.sub_self]
  have h : IntOp.cmpi .sle (IntOp.absi (0#32)) 128#32 = 1#1 := by decide
  rw [h]
  generalize IntOp.cmpi .slt (BitVec.ofNat 32 i.val) 32#32 = b
  revert b; decide

/-- A score plus the mask's addend (nothing where it is seen, the least value elsewhere) is the masked score. -/
theorem masked (b : BitVec 1) (x : EReal) : x + Scalar.select b 0 ⊥ = Scalar.select b x ⊥ := by
  unfold Scalar.select
  split
  · exact add_zero x
  · exact EReal.add_bot x

end Cert.Attn

end
-- ==== Proof.KHead.lean ====
/- One head of the kernel, read at a position and a coordinate: it is the attention of the head. -/
module

public import proofs.«01_k».proof.Proof.Attn
public import proofs.«01_k».proof.Proof.KValues
public import Idealize.ShloMosaic.Lib.ValueLayout
public import Idealize.ShloMosaic.Lib.MatmulPlain
public import Idealize.ShloMosaic.Lib.KernelVsHost
public import Idealize.ShloMosaic.PureOps.Ideal.Laws

@[expose] public section

noncomputable section

namespace Cert.Attn

open Idealize.ShloMosaic Idealize.ShloMosaic.ValueIdx Cert.KernelIdeal Cert.KernelIdeal.Gen
open scoped BigOperators

/-- The product of two matrices at a place. -/
theorem prod_at {M K N : ℕ} (l : FVec Ideal ⟨2, ![M, K]⟩ .f32) (r : FVec Ideal ⟨2, ![K, N]⟩ .f32) (i : Fin M) (j : Fin N) :
    matmul (DotDims.plain M K N) none l r (constant ⟨2, ![M, N]⟩ .f32 0x00000000#32) (ix2 i j) = ∑ k, l (ix2 i k) * r (ix2 k j) := by
  refine (Ideal.matmul_plain_apply none l r _ i j).trans ?_
  refine (congrArg (· + _) (Ideal.ofBits_zero_f32)).trans (zero_add _)

/-- The product of a matrix with another's rows at a place. -/
theorem prodT_at {M K N : ℕ} (l : FVec Ideal ⟨2, ![M, K]⟩ .f32) (r : FVec Ideal ⟨2, ![N, K]⟩ .f32) (i : Fin M) (j : Fin N) :
    matmul (DotDims.transposedRhs M K N) none l r (constant ⟨2, ![M, N]⟩ .f32 0x00000000#32) (ix2 i j) = ∑ k, l (ix2 i k) * r (ix2 j k) := by
  refine (Ideal.matmul_transposedRhs_apply none l r _ i j).trans ?_
  refine (congrArg (· + _) (Ideal.ofBits_zero_f32)).trans (zero_add _)

/-- One number per row, spread along the rows. -/
theorem spread_at {α : Type} (x : S1024.Idx → α) (i j : Fin 1024) :
    broadcastTo S1024x1024 (shapeCast S1024x1 x shapeCasts_S1024_S1024x1) broadcasts_S1024x1_S1024x1024 (ix2 i j) = x (ix1 i) := by
  refine (broadcastTo_apply _ _ _ (ix2 i (0 : Fin 1)) fun a => ?_).trans ?_
  · match a with
    | ⟨0, _⟩ => rfl
    | ⟨1, _⟩ => rfl
  · refine shapeCast_apply _ _ _ _ ?_
    rw [Shape.rowMajor_val_one, Shape.rowMajor_val_two]
    show i.val = i.val * 1 + 0
    omega

/-- Where a row's `k`-th number lies. -/
theorem lift_row (i k : Fin 1024) : reduces_S1024x1024_S1024.lift (ix1 i) k = ix2 i k := by
  funext a
  apply Fin.ext
  match a with
  | ⟨0, _⟩ => rfl
  | ⟨1, _⟩ => rfl

/-- A row's sum. -/
theorem rowSum_at (x : FVec Ideal S1024x1024 .f32) (i : Fin 1024) :
    multiReduction .add [1] S1024 x 0x00000000#32 reduces_S1024x1024_S1024 (.inl rfl) rfl (ix1 i) = ∑ j : Fin 1024, x (ix2 i j) := by
  refine (Ideal.multiReduction_add_single x _ _ _ _ _).trans ?_
  exact Finset.sum_congr rfl fun k _ => congrArg x (lift_row i k)

/-- A row's largest. -/
theorem rowMax_at (x : FVec Ideal S1024x1024 .f32) (i : Fin 1024) :
    multiReduction .maximumf [1] S1024 x 0xFF800000#32 reduces_S1024x1024_S1024 (.inl rfl) rfl (ix1 i)
      = (Finset.univ : Finset (Fin 1024)).fold max ⊥ fun j => x (ix2 i j) := by
  refine (Ideal.multiReduction_maximumf_single x _ _ _ _ _).trans ?_
  have h : (FloatOps.ofBits (F := Ideal) .f32 0xFF800000#32 : EReal) = ⊥ := by
    show Ideal.ofBits .f32 0xFF800000#32 = ⊥
    simp [Ideal.ofBits, Ideal.ieee]
  rw [h]
  exact congrArg (fun f => (Finset.univ : Finset (Fin 1024)).fold max (⊥ : EReal) f) (funext fun k => congrArg x (lift_row i k))

/-- The mask's addend: nothing where the position is seen, the least value elsewhere. -/
theorem mask_at (i j : Fin 1024) : k0_pay2 (F := Ideal) (ix2 i j) = Scalar.select (sees i j) (0 : EReal) ⊥ := by
  have h0 : iota .tc S1024x1024 32 [0] iota_S1024x1024_d0_w32 (ix2 i j) = BitVec.ofNat 32 i.val := iota_single_apply _ _ _ _ _ _
  have h1 : iota .tc S1024x1024 32 [1] iota_S1024x1024_d1_w32 (ix2 i j) = BitVec.ofNat 32 j.val := iota_single_apply _ _ _ _ _ _
  have hz : (Scalar.ofBits (F := Ideal) .f32 0x00000000#32 : EReal) = 0 := Ideal.ofBits_zero_f32
  have hm : (Named.named (F := Ideal) (φ := .f32) κ "mask" 0xCE6E6B28#32 : EReal) = ⊥ := rfl
  unfold k0_pay2 sees
  dsimp only
  simp only [select_apply, broadcast_apply]
  rw [hz, hm]
  refine congrArg (fun b => Scalar.select b (0 : EReal) ⊥) ?_
  show IntOp.ori (IntOp.ori (IntOp.cmpi .sle (IntOp.absi (iota .tc S1024x1024 32 [0] iota_S1024x1024_d0_w32 (ix2 i j)
      - iota .tc S1024x1024 32 [1] iota_S1024x1024_d1_w32 (ix2 i j))) 128#32)
      (IntOp.cmpi .slt (iota .tc S1024x1024 32 [1] iota_S1024x1024_d1_w32 (ix2 i j)) 32#32))
      (IntOp.cmpi .slt (iota .tc S1024x1024 32 [0] iota_S1024x1024_d0_w32 (ix2 i j)) 32#32) = _
  rw [h0, h1]

/-- The values of one head without their axis of one. -/
theorem flat_at {α : Type} (x : S1024x1x128.Idx → α) (j : Fin 1024) (d : Fin 128) :
    shapeCast S1024x128 x shapeCasts_S1024x1x128_S1024x128 (ix2 j d) = x (ix3 j (0 : Fin 1) d) := by
  refine shapeCast_apply _ _ _ _ ?_
  rw [Shape.rowMajor_val_three, Shape.rowMajor_val_two]
  show (j.val * 1 + 0) * 128 + d.val = j.val * 128 + d.val
  omega

/-- The scores of one head with the mask's addend. -/
def scores (q k : FVec Ideal S1024x128 .f32) : FVec Ideal S1024x1024 .f32 :=
  addf (mulf (matmul dot_S1024x128_S1024x128_S1024x1024_1_1_0_0_n_n none q k (constant S1024x1024 .f32 0x00000000#32))
    (broadcast S1024x1024 (Scalar.ofBits (F := Ideal) .f32 0x3DB504F3#32))) (k0_pay2 (F := Ideal))

theorem scores_at (q k : FVec Ideal S1024x128 .f32) (i j : Fin 1024) :
    scores q k (ix2 i j) = score (fun i d => q (ix2 i d)) (fun j d => k (ix2 j d)) i j := by
  have hp : matmul dot_S1024x128_S1024x128_S1024x1024_1_1_0_0_n_n none q k (constant S1024x1024 .f32 0x00000000#32) (ix2 i j)
      = ∑ d, q (ix2 i d) * k (ix2 j d) := prodT_at q k i j
  show (matmul dot_S1024x128_S1024x128_S1024x1024_1_1_0_0_n_n none q k (constant S1024x1024 .f32 0x00000000#32) (ix2 i j) * scale : EReal)
    + k0_pay2 (F := Ideal) (ix2 i j) = _
  rw [hp, mask_at, masked]
  rfl

/-- The weights of one head before they are normalized. -/
def weights (s : FVec Ideal S1024x1024 .f32) : FVec Ideal S1024x1024 .f32 :=
  exp (subf s (broadcastTo S1024x1024 (shapeCast S1024x1 (multiReduction .maximumf [1] S1024 s 0xFF800000#32 reduces_S1024x1024_S1024 (.inl rfl) rfl)
    shapeCasts_S1024_S1024x1) broadcasts_S1024x1_S1024x1024))

theorem weights_at (s : FVec Ideal S1024x1024 .f32) (i j : Fin 1024) :
    weights s (ix2 i j) = Ideal.exp (s (ix2 i j) - (Finset.univ : Finset (Fin 1024)).fold max ⊥ fun j => s (ix2 i j)) := by
  rw [← rowMax_at s i]
  refine congrArg Ideal.exp (congrArg (s (ix2 i j) - ·) ?_)
  exact spread_at _ i j

/-- The normalized weights times the values. -/
theorem mixed_at (w : FVec Ideal S1024x1024 .f32) (v : FVec Ideal S1024x128 .f32) (i : Fin 1024) (d : Fin 128) :
    matmul dot_S1024x1024_S1024x128_S1024x128_1_0_0_1_n_n none
      (divf w (broadcastTo S1024x1024 (shapeCast S1024x1 (multiReduction .add [1] S1024 w 0x00000000#32 reduces_S1024x1024_S1024 (.inl rfl) rfl)
        shapeCasts_S1024_S1024x1) broadcasts_S1024x1_S1024x1024)) v (constant S1024x128 .f32 0x00000000#32) (ix2 i d)
      = ∑ j, Ideal.div (w (ix2 i j)) (∑ j : Fin 1024, w (ix2 i j)) * v (ix2 j d) := by
  refine (prod_at _ v i d).trans (Finset.sum_congr rfl fun j _ => congrArg (· * _) ?_)
  rw [← rowSum_at w i]
  refine congrArg (Ideal.div (w (ix2 i j))) ?_
  exact spread_at _ i j

/-- One head's payload is its attention. -/
theorem pay_at (q k : FVec Ideal S1024x128 .f32) (v : FVec Ideal S1024x1x128 .f32) (i : Fin 1024) (d : Fin 128) :
    k0_pay5 (k0_pay2 (F := Ideal)) q k v (ix2 i d)
      = attend (fun i d => q (ix2 i d)) (fun j d => k (ix2 j d)) (fun j d => v (ix3 j (0 : Fin 1) d)) i d := by
  have e : k0_pay5 (k0_pay2 (F := Ideal)) q k v
      = shapeCast S1024x128 (matmul dot_S1024x1024_S1024x128_S1024x128_1_0_0_1_n_n none
      (divf (weights (scores q k)) (broadcastTo S1024x1024 (shapeCast S1024x1 (multiReduction .add [1] S1024 (weights (scores q k)) 0x00000000#32 reduces_S1024x1024_S1024 (.inl rfl) rfl)
        shapeCasts_S1024_S1024x1) broadcasts_S1024x1_S1024x1024)) (shapeCast S1024x128 v shapeCasts_S1024x1x128_S1024x128) (constant S1024x128 .f32 0x00000000#32))
        shapeCasts_S1024x128_S1024x128 := rfl
  rw [e, shapeCast_self]
  refine (mixed_at _ _ i d).trans ?_
  have hs : ∀ j, scores q k (ix2 i j) = score (fun i d => q (ix2 i d)) (fun j d => k (ix2 j d)) i j := scores_at q k i
  have hw : ∀ j, weights (scores q k) (ix2 i j) = weight (fun i d => q (ix2 i d)) (fun j d => k (ix2 j d)) i j := fun j => by
    rw [weights_at, funext hs, hs j]; rfl
  simp only [hw, flat_at]
  rfl

end Cert.Attn

end
-- ==== Proof.KTotal.lean ====
/- What every device ends with: the sum, over the devices, of the products of their heads with their rows of the
   output weights. -/
module

public import proofs.«01_k».proof.Proof.KHead

@[expose] public section

noncomputable section

namespace Cert.Attn

open Idealize.ShloMosaic Idealize.ShloMosaic.ValueIdx Cert.KernelIdeal Cert.KernelIdeal.Gen
open Cert.KernelIdeal.Run (Inp headVal headOf queries ctxOf rowsOf partVal unsq recvVal totalOf sentOf outRow outOf bwd fwd)
open scoped BigOperators

theorem ix2_eq {m n : ℕ} (i : Fin m) (j : Fin n) : Cert.KernelIdeal.Run.ix2 (s := ![m, n]) i j = ix2 i j :=
  funext fun a => match a with
    | ⟨0, _⟩ => rfl
    | ⟨1, _⟩ => rfl

/-- The part of the result that one device contributes at a place. -/
def share (a : Inp Ideal) (i n : Fin 1024) : EReal := ∑ e : Fin 1024, ctxOf a (ix2 i e) * a.wo (ix2 e n)

/-- The row `p` of block `r`. -/
def rowAt (r : Fin 8) (p : Fin 128) : Fin 1024 := ⟨128 * r.val + p.val, by omega⟩

theorem rowsOf_at (x : FVec Ideal S1024x1024 .f32) (r : Fin 8) (p : Fin 128) (n : Fin 1024) :
    rowsOf (F := Ideal) (e := .f32) x r (ix2 p n) = x (ix2 (rowAt r p) n) := by
  refine congrArg x (funext fun a => Fin.ext ?_)
  match a with
  | ⟨0, _⟩ => show 128 * r.val + 1 * p.val = 128 * r.val + p.val; omega
  | ⟨1, _⟩ => show 0 + 1 * n.val = n.val; omega

/-- The product of a block of rows with the weights, unrounded. -/
def prodOf (a : Inp Ideal) (r : Fin 8) : FVec Ideal S128x1024 .f32 :=
  matmul (F := Ideal) (φ₁ := .f32) (φ₂ := .f32) dot_S128x1024_S1024x1024_S128x1024_1_0_0_1_n_n none (rowsOf (F := Ideal) (e := .f32) (ctxOf a) r) a.wo
    (constant S128x1024 .f32 0x00000000#32)

theorem prodOf_at (a : Inp Ideal) (r : Fin 8) (p : Fin 128) (n : Fin 1024) : prodOf a r (ix2 p n) = share a (rowAt r p) n := by
  refine (prod_at _ a.wo p n).trans (Finset.sum_congr rfl fun e _ => congrArg (· * _) ?_)
  exact rowsOf_at _ r p e

/-- On the extended reals rounding changes nothing. -/
theorem partVal_eq (a : Inp Ideal) (r : Fin 8) : partVal a r = prodOf a r := by
  have e : partVal a r = shapeCast (α := EReal) S128x1024 (matmul (F := Ideal) (φ₁ := .f32) (φ₂ := .f32) dot_S128x1024_S1024x1024_S128x1024_1_0_0_1_n_n none
      (rowsOf (F := Ideal) (e := .f32) (ctxOf a) r) (shapeCast S1024x1024 a.wo shapeCasts_S1024x1024_S1024x1024)
      (constant S128x1024 .f32 0x00000000#32)) shapeCasts_S128x1024_S128x1024 := rfl
  rw [e, shapeCast_self, shapeCast_self]
  rfl

/-- A block taken out of its slot. -/
def unslot (x : S1x128x1024.Idx → EReal) : FVec Ideal S128x1024 .f32 := shapeCast S128x1024 x shapeCasts_S1x128x1024_S128x1024

theorem unslot_unsq (x : S128x1024.Idx → EReal) : unslot (unsq (F := Ideal) (e := .bf16) x) = x := shapeCast_shapeCast _ _ _

/-- The block a device reduces, as a sum of eight products. -/
theorem totalOf_eq (I : Dev nD → Inp Ideal) (c : Dev nD) :
    totalOf I c = addf (addf (addf (addf (addf (addf (addf (prodOf (I c) c) (prodOf (I (bwd 0 c)) c)) (prodOf (I (bwd 1 c)) c))
      (prodOf (I (bwd 2 c)) c)) (prodOf (I (bwd 3 c)) c)) (prodOf (I (bwd 4 c)) c)) (prodOf (I (bwd 5 c)) c)) (prodOf (I (bwd 6 c)) c) := by
  have r : ∀ k, unslot (recvVal I k c) = prodOf (I (bwd k c)) c := fun k => by
    rw [← partVal_eq]; exact unslot_unsq _
  have e : totalOf I c = addf (addf (addf (addf (addf (addf (addf (matmul (F := Ideal) (φ₁ := .f32) (φ₂ := .f32) dot_S128x1024_S1024x1024_S128x1024_1_0_0_1_n_n none
      (rowsOf (F := Ideal) (e := .f32) (ctxOf (I c)) c) (shapeCast S1024x1024 (I c).wo shapeCasts_S1024x1024_S1024x1024)
      (constant S128x1024 .f32 0x00000000#32)) (unslot (recvVal I 0 c))) (unslot (recvVal I 1 c)))
      (unslot (recvVal I 2 c))) (unslot (recvVal I 3 c))) (unslot (recvVal I 4 c))) (unslot (recvVal I 5 c))) (unslot (recvVal I 6 c)) := rfl
  rw [e, shapeCast_self]
  simp only [r]
  rfl

/-- A device and its seven predecessors are all eight. -/
theorem ring_sum {M : Type} [AddCommMonoid M] (f : Dev nD → M) (c : Dev nD) :
    f c + f (bwd 0 c) + f (bwd 1 c) + f (bwd 2 c) + f (bwd 3 c) + f (bwd 4 c) + f (bwd 5 c) + f (bwd 6 c) = ∑ d : Dev nD, f d := by
  rw [show (∑ d : Dev nD, f d) = f 0 + f 1 + f 2 + f 3 + f 4 + f 5 + f 6 + f 7 from Fin.sum_univ_eight f]
  obtain rfl | rfl | rfl | rfl | rfl | rfl | rfl | rfl : c = 0 ∨ c = 1 ∨ c = 2 ∨ c = 3 ∨ c = 4 ∨ c = 5 ∨ c = 6 ∨ c = 7 := by
    revert c; decide
  · rw [show bwd 0 (0 : Dev nD) = 7 by decide, show bwd 1 (0 : Dev nD) = 6 by decide, show bwd 2 (0 : Dev nD) = 5 by decide, show bwd 3 (0 : Dev nD) = 4 by decide, show bwd 4 (0 : Dev nD) = 3 by decide, show bwd 5 (0 : Dev nD) = 2 by decide, show bwd 6 (0 : Dev nD) = 1 by decide]; abel
  · rw [show bwd 0 (1 : Dev nD) = 0 by decide, show bwd 1 (1 : Dev nD) = 7 by decide, show bwd 2 (1 : Dev nD) = 6 by decide, show bwd 3 (1 : Dev nD) = 5 by decide, show bwd 4 (1 : Dev nD) = 4 by decide, show bwd 5 (1 : Dev nD) = 3 by decide, show bwd 6 (1 : Dev nD) = 2 by decide]; abel
  · rw [show bwd 0 (2 : Dev nD) = 1 by decide, show bwd 1 (2 : Dev nD) = 0 by decide, show bwd 2 (2 : Dev nD) = 7 by decide, show bwd 3 (2 : Dev nD) = 6 by decide, show bwd 4 (2 : Dev nD) = 5 by decide, show bwd 5 (2 : Dev nD) = 4 by decide, show bwd 6 (2 : Dev nD) = 3 by decide]; abel
  · rw [show bwd 0 (3 : Dev nD) = 2 by decide, show bwd 1 (3 : Dev nD) = 1 by decide, show bwd 2 (3 : Dev nD) = 0 by decide, show bwd 3 (3 : Dev nD) = 7 by decide, show bwd 4 (3 : Dev nD) = 6 by decide, show bwd 5 (3 : Dev nD) = 5 by decide, show bwd 6 (3 : Dev nD) = 4 by decide]; abel
  · rw [show bwd 0 (4 : Dev nD) = 3 by decide, show bwd 1 (4 : Dev nD) = 2 by decide, show bwd 2 (4 : Dev nD) = 1 by decide, show bwd 3 (4 : Dev nD) = 0 by decide, show bwd 4 (4 : Dev nD) = 7 by decide, show bwd 5 (4 : Dev nD) = 6 by decide, show bwd 6 (4 : Dev nD) = 5 by decide]; abel
  · rw [show bwd 0 (5 : Dev nD) = 4 by decide, show bwd 1 (5 : Dev nD) = 3 by decide, show bwd 2 (5 : Dev nD) = 2 by decide, show bwd 3 (5 : Dev nD) = 1 by decide, show bwd 4 (5 : Dev nD) = 0 by decide, show bwd 5 (5 : Dev nD) = 7 by decide, show bwd 6 (5 : Dev nD) = 6 by decide]; abel
  · rw [show bwd 0 (6 : Dev nD) = 5 by decide, show bwd 1 (6 : Dev nD) = 4 by decide, show bwd 2 (6 : Dev nD) = 3 by decide, show bwd 3 (6 : Dev nD) = 2 by decide, show bwd 4 (6 : Dev nD) = 1 by decide, show bwd 5 (6 : Dev nD) = 0 by decide, show bwd 6 (6 : Dev nD) = 7 by decide]; abel
  · rw [show bwd 0 (7 : Dev nD) = 6 by decide, show bwd 1 (7 : Dev nD) = 5 by decide, show bwd 2 (7 : Dev nD) = 4 by decide, show bwd 3 (7 : Dev nD) = 3 by decide, show bwd 4 (7 : Dev nD) = 2 by decide, show bwd 5 (7 : Dev nD) = 1 by decide, show bwd 6 (7 : Dev nD) = 0 by decide]; abel

theorem totalOf_at (I : Dev nD → Inp Ideal) (c : Dev nD) (p : Fin 128) (n : Fin 1024) :
    totalOf I c (ix2 p n) = ∑ d : Dev nD, share (I d) (rowAt c p) n := by
  rw [totalOf_eq, ← ring_sum (fun d => share (I d) (rowAt c p) n) c]
  simp only [← prodOf_at]
  rfl

/-- Every block a device ends with is the block its owner reduced. -/
theorem outRow_eq (I : Dev nD → Inp Ideal) (c r : Dev nD) : outRow I c r = totalOf I r := by
  unfold outRow
  split
  · next h => rw [h]
  · have e : k0_pay31 (unsq (sentOf I r)) = unslot (unsq (F := Ideal) (e := .bf16)
        (shapeCast S128x1024 (totalOf I r) shapeCasts_S128x1024_S128x1024)) := rfl
    rw [e, unslot_unsq, shapeCast_self]

theorem outOf_at (I : Dev nD → Inp Ideal) (c : Dev nD) (i n : Fin 1024) : outOf I c (ix2 i n) = ∑ d : Dev nD, share (I d) i n := by
  have e : outOf I c (ix2 i n) = outRow I c ⟨i.val / 128, by show i.val / 128 < 8; omega⟩ (Cert.KernelIdeal.Run.ix2 (s := S128x1024.size)
      ⟨i.val % 128, Nat.mod_lt _ (by decide)⟩ n) := rfl
  rw [e, outRow_eq]
  refine (congrArg (totalOf I _) (ix2_eq _ _)).trans ((totalOf_at I _ _ n).trans ?_)
  refine Finset.sum_congr rfl fun d _ => congrArg (fun r => share (I d) r n) (Fin.ext ?_)
  show 128 * (i.val / 128) + i.val % 128 = i.val
  omega

/-- A head of the keys or the values at a place. -/
theorem headOf_at (x : FVec Ideal S1024x8x128 .f32) (h : Fin 8) (j : Fin 1024) (d : Fin 128) :
    headOf (F := Ideal) x h (ix3 j (0 : Fin 1) d) = x (ix3 j h d) := by
  refine congrArg x (funext fun a => Fin.ext ?_)
  match a with
  | ⟨0, _⟩ => show 0 + 1 * j.val = j.val; omega
  | ⟨1, _⟩ => show h.val + 1 * 0 = h.val; omega
  | ⟨2, _⟩ => show 0 + 1 * d.val = d.val; omega

/-- The column of coordinate `d` of head `h`. -/
def colAt (h : Fin 8) (d : Fin 128) : Fin 1024 := ⟨128 * h.val + d.val, by omega⟩

theorem queries_at (a : Inp Ideal) (i e : Fin 1024) : queries a (ix2 i e) = ∑ u : Fin 1024, a.x (ix2 i u) * a.wq (ix2 u e) := by
  have h : queries a = matmul (F := Ideal) (φ₁ := .f32) (φ₂ := .f32) dot_S1024x1024_S1024x1024_S1024x1024_1_0_0_1_n_n none
      (shapeCast S1024x1024 a.x shapeCasts_S1024x1024_S1024x1024) (shapeCast S1024x1024 a.wq shapeCasts_S1024x1024_S1024x1024)
      (constant S1024x1024 .f32 0x00000000#32) := rfl
  rw [h, shapeCast_self, shapeCast_self]
  exact prod_at a.x a.wq i e

/-- One head of one device at a place. -/
theorem headVal_at (a : Inp Ideal) (h : Fin 8) (i : Fin 1024) (d : Fin 128) :
    headVal a h (ix2 i d) = attend (fun i d => queries a (ix2 i (colAt h d))) (fun j d => a.k (ix3 j h d)) (fun j d => a.v (ix3 j h d)) i d := by
  refine (pay_at _ _ (headOf a.v h) i d).trans ?_
  have hq : ∀ i d, extractStridedSlice S1024x128 (Cert.KernelIdeal.Run.colOff h) (queries a) (Cert.KernelIdeal.Run.colSlices h) (ix2 i d)
      = queries a (ix2 i (colAt h d)) := fun i d => by
    refine extractStridedSlice_apply _ _ _ _ _ fun a => ?_
    match a with
    | ⟨0, _⟩ => show i.val = 0 + i.val; omega
    | ⟨1, _⟩ => rfl
  have hk : ∀ j d, k0_pay4 (headOf a.k h) (ix2 j d) = a.k (ix3 j h d) := fun j d =>
    (flat_at _ j d).trans (headOf_at a.k h j d)
  simp only [hq, hk, headOf_at]

theorem ctxOf_at (a : Inp Ideal) (h : Fin 8) (i : Fin 1024) (d : Fin 128) : ctxOf a (ix2 i (colAt h d)) = headVal a h (ix2 i d) := by
  have e : ctxOf a (ix2 i (colAt h d)) = headVal a ⟨(128 * h.val + d.val) / 128, by omega⟩
      (Cert.KernelIdeal.Run.ix2 (s := S1024x128.size) i ⟨(128 * h.val + d.val) % 128, Nat.mod_lt _ (by decide)⟩) := rfl
  rw [e, show Cert.KernelIdeal.Run.ix2 (s := S1024x128.size) i ⟨(128 * h.val + d.val) % 128, Nat.mod_lt _ (by decide)⟩ = ix2 i ⟨(128 * h.val + d.val) % 128, Nat.mod_lt _ (by decide)⟩ from ix2_eq _ _]
  have h1 : (⟨(128 * h.val + d.val) / 128, by omega⟩ : Fin 8) = h := Fin.ext (by show (128 * h.val + d.val) / 128 = h.val; omega)
  have h2 : (⟨(128 * h.val + d.val) % 128, Nat.mod_lt _ (by decide)⟩ : Fin 128) = d :=
    Fin.ext (by show (128 * h.val + d.val) % 128 = d.val; omega)
  rw [h1, h2]

end Cert.Attn

end
-- ==== Proof.RMath.lean ====
/- What the reference computes, read at a place: for every head its attention, and the product of all heads with the
   output weights. -/
module

public import proofs.«01_k».proof.Proof.Attn
public import proofs.«01_k».proof.Proof.Gen.ReferenceIdeal.Run
public import Idealize.ShloMosaic.Lib.ValueLayout
public import Idealize.ShloMosaic.Lib.IdealHost
public import Idealize.ShloMosaic.Lib.Pointwise.Contract
public import Idealize.ShloMosaic.PureOps.Ideal.Laws

@[expose] public section

noncomputable section

namespace Cert.Attn.Whole

open Idealize.ShloMosaic hiding ix0 ix1 ix2 ix3 ix4 ix5
open Idealize.ShloMosaic.ValueIdx Cert.ReferenceIdeal Cert.ReferenceIdeal.Gen
open scoped BigOperators

/-- Which positions see which. -/
def seen : IVec S1024x1024 1 :=
  ori (cmpi .sle (absi (subi (broadcastInDim S1024x1024 ![0, 1] bcast_S1024x1_S1024x1024_0_1 (broadcastInDim S1024x1 ![0] bcast_S1024_S1024x1_0 (iotaInDim S1024 32 0)))
      (broadcastInDim S1024x1024 ![0, 1] bcast_S1x1024_S1024x1024_0_1 (broadcastInDim S1x1024 ![1] bcast_S1024_S1x1024_1 (iotaInDim S1024 32 0)))))
      (broadcastInDim S1024x1024 ![] bcast_S_S1024x1024 (constantI S_ 32 128#32)))
    (ori (broadcastInDim S1024x1024 ![0, 1] bcast_S1x1024_S1024x1024_0_1 (cmpi .slt (broadcastInDim S1x1024 ![1] bcast_S1024_S1x1024_1 (iotaInDim S1024 32 0)) (broadcastInDim S1x1024 ![] bcast_S_S1x1024 (constantI S_ 32 32#32))))
      (broadcastInDim S1024x1024 ![0, 1] bcast_S1024x1_S1024x1024_0_1 (cmpi .slt (broadcastInDim S1024x1 ![0] bcast_S1024_S1024x1_0 (iotaInDim S1024 32 0)) (broadcastInDim S1024x1 ![] bcast_S_S1024x1 (constantI S_ 32 32#32)))))

/-- Which positions see any. -/
def kept : IVec S1024 1 := Host.reduce IntOp.ori seen (constantI S_ 1 0#1) reducesTo_S1024x1024_S1024_d1 h_S_

/-- The queries of all heads. -/
def queries (x : FVec Ideal S1x1024x1024 .f32) (wq : FVec Ideal S1024x8192 .f32) : FVec Ideal S1x1024x64x128 .f32 :=
  shapeCast S1x1024x64x128 (Host.dotGeneral dot_S1x1024x1024_S1024x8192_S1x1024x8192_2_0_01_1_n_n none x wq) shapeCasts_S1x1024x8192_S1x1024x64x128

/-- The masked scores of all heads. -/
def scores (q k : FVec Ideal S1x1024x64x128 .f32) : FVec Ideal S1x64x1024x1024 .f32 :=
  select (broadcastInDim S1x64x1024x1024 ![0, 1, 2, 3] bcast_S1x1x1024x1024_S1x64x1024x1024_0_1_2_3 (broadcastInDim S1x1x1024x1024 ![2, 3] bcast_S1024x1024_S1x1x1024x1024_2_3 seen))
    (mulf (Host.dotGeneral dot_S1x1024x64x128_S1x1024x64x128_S1x64x1024x1024_3_3_1_1_02_02 none q k) (broadcastInDim S1x64x1024x1024 ![] bcast_S_S1x64x1024x1024 (constant S_ .f32 0x3DB504F3#32)))
    (broadcastInDim S1x64x1024x1024 ![] bcast_S_S1x64x1024x1024 (id (constant S_ .f32 0xFF800000#32)))

/-- The largest score of every row. -/
def peaks (s : FVec Ideal S1x64x1024x1024 .f32) : FVec Ideal S1x64x1024 .f32 :=
  Host.reduce (FloatOps.maximumf (F := Ideal) (φ := .f32)) s (constant S_ .f32 0xFF800000#32) reducesTo_S1x64x1024x1024_S1x64x1024_d3 h_S_

/-- One number per row, spread along the rows. -/
def spread {α : Type} (x : S1x64x1024x1.Idx → α) : S1x64x1024x1024.Idx → α :=
  broadcastInDim S1x64x1024x1024 ![0, 1, 2, 3] bcast_S1x64x1024x1_S1x64x1024x1024_0_1_2_3 x

/-- One number per row, as a column. -/
def column {α : Type} (x : S1x64x1024.Idx → α) : S1x64x1024x1.Idx → α :=
  broadcastInDim S1x64x1024x1 ![0, 1, 2] bcast_S1x64x1024_S1x64x1024x1_0_1_2 x

/-- The weights before they are normalized. -/
def weights (s : FVec Ideal S1x64x1024x1024 .f32) : FVec Ideal S1x64x1024x1024 .f32 :=
  Host.exp (subf s (spread (column (peaks s))))

/-- The sum of every row's weights, one where a row sees none. -/
def masses (w : FVec Ideal S1x64x1024x1024 .f32) : FVec Ideal S1x64x1024x1 .f32 :=
  select (broadcastInDim S1x64x1024x1 ![0, 1, 2, 3] bcast_S1x1x1024x1_S1x64x1024x1_0_1_2_3 (broadcastInDim S1x1x1024x1 ![2] bcast_S1024_S1x1x1024x1_2 kept))
    (column (Host.reduceAdd w (constant S_ .f32 0x00000000#32) reducesTo_S1x64x1024x1024_S1x64x1024_d3 h_S_))
    (broadcastInDim S1x64x1024x1 ![] bcast_S_S1x64x1024x1 (id (constant S_ .f32 0x3F800000#32)))

/-- The normalized weights, nothing where a row sees none. -/
def shares (w : FVec Ideal S1x64x1024x1024 .f32) : FVec Ideal S1x64x1024x1024 .f32 :=
  select (broadcastInDim S1x64x1024x1024 ![0, 1, 2, 3] bcast_S1x1x1024x1_S1x64x1024x1024_0_1_2_3 (broadcastInDim S1x1x1024x1 ![2] bcast_S1024_S1x1x1024x1_2 kept))
    (Host.divf w (spread (masses w)))
    (broadcastInDim S1x64x1024x1024 ![] bcast_S_S1x64x1024x1024 (id (constant S_ .f32 0x00000000#32)))

/-- All heads side by side. -/
def heads (v : FVec Ideal S1x1024x64x128 .f32) (p : FVec Ideal S1x64x1024x1024 .f32) : FVec Ideal S1x1024x8192 .f32 :=
  shapeCast S1x1024x8192 (transpose S1x1024x64x128 [0, 3, 1, 2]
    (Host.dotGeneral dot_S1x1024x64x128_S1x64x1024x1024_S1x64x128x1024_1_3_3_2_02_01 none v p) transposes_S1x64x128x1024_S1x1024x64x128_0_3_1_2) shapeCasts_S1x1024x64x128_S1x1024x8192

/-- The result. -/
def result (x : FVec Ideal S1x1024x1024 .f32) (wq : FVec Ideal S1024x8192 .f32) (k v : FVec Ideal S1x1024x64x128 .f32) (wo : FVec Ideal S8192x1024 .f32) :
    FVec Ideal S1x1024x1024 .f32 :=
  Host.dotGeneral dot_S1x1024x8192_S8192x1024_S1x1024x1024_2_0_01_1_n_n none (heads v (shares (weights (scores (queries x wq) k)))) wo

theorem result_eq (m : (ℓ : Loc nD τ sig) → Buf (Elt Ideal) ℓ) (c : Dev nD) :
    Cert.ReferenceIdeal.Value.res_main_v42 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Cert.ReferenceIdeal.Value.res_main_v42 result heads shares masses weights spread column peaks scores queries kept seen
  rfl

theorem seen_at (i j : Fin 1024) : seen (ix2 i j) = sees i j := by
  have hr : ∀ i j : Fin 1024, broadcastInDim S1024x1024 ![0, 1] bcast_S1024x1_S1024x1024_0_1 (broadcastInDim S1024x1 ![0] bcast_S1024_S1024x1_0 (iotaInDim S1024 32 0)) (ix2 i j)
      = BitVec.ofNat 32 i.val := fun i j => rfl
  have hc : ∀ i j : Fin 1024, broadcastInDim S1024x1024 ![0, 1] bcast_S1x1024_S1024x1024_0_1 (broadcastInDim S1x1024 ![1] bcast_S1024_S1x1024_1 (iotaInDim S1024 32 0)) (ix2 i j)
      = BitVec.ofNat 32 j.val := fun i j => rfl
  have e : seen (ix2 i j) = IntOp.ori (IntOp.cmpi .sle (IntOp.absi (BitVec.ofNat 32 i.val - BitVec.ofNat 32 j.val)) 128#32)
      (IntOp.ori (IntOp.cmpi .slt (BitVec.ofNat 32 j.val) 32#32) (IntOp.cmpi .slt (BitVec.ofNat 32 i.val) 32#32)) := rfl
  rw [e]
  exact (BitVec.or_assoc _ _ _).symm

theorem reduces2 : S1024x1024.Reduces [1] S1024 := by decide

theorem lift_pos (i k : Fin 1024) : reduces2.lift (ix1 i) k = ix2 i k := by
  funext a
  apply Fin.ext
  match a with
  | ⟨0, _⟩ => rfl
  | ⟨1, _⟩ => rfl

/-- A row with a one has the disjunction one. -/
theorem fold_one (f : Fin 1024 → BitVec 1) (i : Fin 1024) (h : f i = 1#1) (b : BitVec 1) [Std.Commutative (IntOp.ori (w := 1))]
    [Std.Associative (IntOp.ori (w := 1))] : (Finset.univ : Finset (Fin 1024)).fold IntOp.ori b f = 1#1 := by
  rw [← Finset.insert_erase (Finset.mem_univ i), Finset.fold_insert (Finset.notMem_erase i _), h]
  generalize (Finset.univ.erase i).fold IntOp.ori b f = z
  revert z; decide

theorem kept_at (i : Fin 1024) : kept (ix1 i) = 1#1 := by
  have : Std.Commutative (IntOp.ori (w := 1)) := ⟨fun a b => BitVec.or_comm a b⟩
  have : Std.Associative (IntOp.ori (w := 1)) := ⟨fun a b c => BitVec.or_assoc a b c⟩
  refine (Host.reduce_eq_fold_single IntOp.ori seen _ reducesTo_S1024x1024_S1024_d1 reduces2 h_S_ (ix1 i)).trans ?_
  exact fold_one (seen ∘ reduces2.lift (ix1 i)) i ((congrArg seen (lift_pos i i)).trans ((seen_at i i).trans (sees_self i))) _

/-- One number per position, spread over the heads as a column. -/
theorem keptCol_at {α : Type} (x : S1024.Idx → α) (h : Fin 64) (i : Fin 1024) :
    broadcastInDim S1x64x1024x1 ![0, 1, 2, 3] bcast_S1x1x1024x1_S1x64x1024x1_0_1_2_3 (broadcastInDim S1x1x1024x1 ![2] bcast_S1024_S1x1x1024x1_2 x)
      (ix4 (0 : Fin 1) h i (0 : Fin 1)) = x (ix1 i) := by
  refine (broadcastInDim_apply _ _ _ _ (ix4 (0 : Fin 1) (0 : Fin 1) i (0 : Fin 1)) fun a => ?_).trans (broadcastInDim_apply _ _ _ _ _ fun a => ?_)
  · match a with
    | ⟨0, _⟩ => rfl
    | ⟨1, _⟩ => rfl
    | ⟨2, _⟩ => rfl
    | ⟨3, _⟩ => rfl
  · match a with
    | ⟨0, _⟩ => rfl

/-- The same, spread along the rows too. -/
theorem keptRow_at {α : Type} (x : S1024.Idx → α) (h : Fin 64) (i j : Fin 1024) :
    broadcastInDim S1x64x1024x1024 ![0, 1, 2, 3] bcast_S1x1x1024x1_S1x64x1024x1024_0_1_2_3 (broadcastInDim S1x1x1024x1 ![2] bcast_S1024_S1x1x1024x1_2 x)
      (ix4 (0 : Fin 1) h i j) = x (ix1 i) := by
  refine (broadcastInDim_apply _ _ _ _ (ix4 (0 : Fin 1) (0 : Fin 1) i (0 : Fin 1)) fun a => ?_).trans (broadcastInDim_apply _ _ _ _ _ fun a => ?_)
  · match a with
    | ⟨0, _⟩ => rfl
    | ⟨1, _⟩ => rfl
    | ⟨2, _⟩ => rfl
    | ⟨3, _⟩ => rfl
  · match a with
    | ⟨0, _⟩ => rfl

theorem queries_at (x : FVec Ideal S1x1024x1024 .f32) (wq : FVec Ideal S1024x8192 .f32) (i : Fin 1024) (h : Fin 64) (d : Fin 128) :
    queries x wq (ix4 (0 : Fin 1) i h d) = ∑ u : Fin 1024, x (ix3 (0 : Fin 1) i u) * wq (ix2 u (⟨128 * h.val + d.val, by omega⟩ : Fin 8192)) := by
  unfold queries
  refine (shapeCast_apply _ _ _ (ix3 (0 : Fin 1) i (⟨128 * h.val + d.val, by omega⟩ : Fin 8192)) ?_).trans ?_
  · rw [Shape.rowMajor_val_three, Shape.rowMajor_val_four]
    show (0 * 1024 + i.val) * 8192 + (128 * h.val + d.val) = ((0 * 1024 + i.val) * 64 + h.val) * 128 + d.val
    omega
  · simp only [pointwise]
    exact zero_add _

theorem scores_at (q k : FVec Ideal S1x1024x64x128 .f32) (h : Fin 64) (i j : Fin 1024) :
    scores q k (ix4 (0 : Fin 1) h i j) = score (fun i d => q (ix4 (0 : Fin 1) i h d)) (fun j d => k (ix4 (0 : Fin 1) j h d)) i j := by
  have hp : Host.dotGeneral dot_S1x1024x64x128_S1x1024x64x128_S1x64x1024x1024_3_3_1_1_02_02 none q k (ix4 (0 : Fin 1) h i j)
      = ∑ d : Fin 128, q (ix4 (0 : Fin 1) i h d) * k (ix4 (0 : Fin 1) j h d) := by
    simp only [pointwise]
    exact zero_add _
  have hm : (FloatOps.ofBits (F := Ideal) .f32 0xFF800000#32 : EReal) = ⊥ := by
    show Ideal.ofBits .f32 0xFF800000#32 = ⊥
    simp [Ideal.ofBits, Ideal.ieee]
  have e : scores q k (ix4 (0 : Fin 1) h i j) = Scalar.select (seen (ix2 i j))
      ((Host.dotGeneral dot_S1x1024x64x128_S1x1024x64x128_S1x64x1024x1024_3_3_1_1_02_02 none q k (ix4 (0 : Fin 1) h i j) : EReal) * scale)
      (FloatOps.ofBits (F := Ideal) .f32 0xFF800000#32) := rfl
  rw [e, hp, hm, seen_at]
  rfl

theorem spread_at {α : Type} (x : S1x64x1024x1.Idx → α) (h : Fin 64) (i j : Fin 1024) :
    spread x (ix4 (0 : Fin 1) h i j) = x (ix4 (0 : Fin 1) h i (0 : Fin 1)) := by
  refine broadcastInDim_apply _ _ _ _ _ fun a => ?_
  match a with
  | ⟨0, _⟩ => rfl
  | ⟨1, _⟩ => rfl
  | ⟨2, _⟩ => rfl
  | ⟨3, _⟩ => rfl

theorem column_at {α : Type} (x : S1x64x1024.Idx → α) (h : Fin 64) (i : Fin 1024) :
    column x (ix4 (0 : Fin 1) h i (0 : Fin 1)) = x (ix3 (0 : Fin 1) h i) := by
  refine broadcastInDim_apply _ _ _ _ _ fun a => ?_
  match a with
  | ⟨0, _⟩ => rfl
  | ⟨1, _⟩ => rfl
  | ⟨2, _⟩ => rfl

theorem reduces : S1x64x1024x1024.Reduces [3] S1x64x1024 := by decide

theorem lift_row (h : Fin 64) (i k : Fin 1024) : reduces.lift (ix3 (0 : Fin 1) h i) k = ix4 (0 : Fin 1) h i k := by
  funext a
  apply Fin.ext
  match a with
  | ⟨0, _⟩ => rfl
  | ⟨1, _⟩ => rfl
  | ⟨2, _⟩ => rfl
  | ⟨3, _⟩ => rfl

theorem peaks_at (s : FVec Ideal S1x64x1024x1024 .f32) (h : Fin 64) (i : Fin 1024) :
    peaks s (ix3 (0 : Fin 1) h i) = (Finset.univ : Finset (Fin 1024)).fold max ⊥ fun j => s (ix4 (0 : Fin 1) h i j) := by
  have hm : (FloatOps.ofBits (F := Ideal) .f32 0xFF800000#32 : EReal) = ⊥ := by
    show Ideal.ofBits .f32 0xFF800000#32 = ⊥
    simp [Ideal.ofBits, Ideal.ieee]
  refine (Host.reduce_eq_fold_single (FloatOps.maximumf (F := Ideal) (φ := .f32)) s _ reducesTo_S1x64x1024x1024_S1x64x1024_d3 reduces h_S_ _).trans ?_
  show (Finset.univ : Finset (Fin 1024)).fold max (FloatOps.ofBits (F := Ideal) .f32 0xFF800000#32 : EReal) (s ∘ reduces.lift (ix3 (0 : Fin 1) h i)) = _
  rw [hm]
  exact congrArg (fun f => (Finset.univ : Finset (Fin 1024)).fold max (⊥ : EReal) f) (funext fun k => congrArg s (lift_row h i k))

theorem weights_at (s : FVec Ideal S1x64x1024x1024 .f32) (h : Fin 64) (i j : Fin 1024) :
    weights s (ix4 (0 : Fin 1) h i j) = Ideal.exp (s (ix4 (0 : Fin 1) h i j) - (Finset.univ : Finset (Fin 1024)).fold max ⊥ fun j => s (ix4 (0 : Fin 1) h i j)) := by
  rw [← peaks_at]
  refine congrArg Ideal.exp (congrArg (s (ix4 (0 : Fin 1) h i j) - ·) ?_)
  exact (spread_at _ h i j).trans (column_at _ h i)

theorem masses_at (w : FVec Ideal S1x64x1024x1024 .f32) (h : Fin 64) (i : Fin 1024) :
    masses w (ix4 (0 : Fin 1) h i (0 : Fin 1)) = ∑ j : Fin 1024, w (ix4 (0 : Fin 1) h i j) := by
  unfold masses
  rw [select_apply, keptCol_at, kept_at, column_at, hostReduceAdd_apply, Ideal.hostReduceAdd_single _ reduces]
  refine (if_pos rfl).trans ?_
  refine (congrArg (· + _) Ideal.ofBits_zero_f32).trans ((zero_add _).trans ?_)
  exact Finset.sum_congr rfl fun k _ => congrArg w (lift_row h i k)

theorem shares_at (w : FVec Ideal S1x64x1024x1024 .f32) (h : Fin 64) (i j : Fin 1024) :
    shares w (ix4 (0 : Fin 1) h i j) = Ideal.div (w (ix4 (0 : Fin 1) h i j)) (∑ j : Fin 1024, w (ix4 (0 : Fin 1) h i j)) := by
  unfold shares
  rw [select_apply, keptRow_at, kept_at, hostDivf_apply, spread_at, masses_at]
  exact if_pos rfl

theorem heads_at (v : FVec Ideal S1x1024x64x128 .f32) (p : FVec Ideal S1x64x1024x1024 .f32) (i : Fin 1024) (h : Fin 64) (d : Fin 128) :
    heads v p (ix3 (0 : Fin 1) i (⟨128 * h.val + d.val, by omega⟩ : Fin 8192)) = ∑ j : Fin 1024, p (ix4 (0 : Fin 1) h i j) * v (ix4 (0 : Fin 1) j h d) := by
  unfold heads
  refine (shapeCast_apply _ _ _ (ix4 (0 : Fin 1) i h d) ?_).trans ?_
  · rw [Shape.rowMajor_val_three, Shape.rowMajor_val_four]
    show ((0 * 1024 + i.val) * 64 + h.val) * 128 + d.val = (0 * 1024 + i.val) * 8192 + (128 * h.val + d.val)
    omega
  refine (transpose_apply _ _ _ _ (ix4 (0 : Fin 1) h d i) fun b => ?_).trans ?_
  · match b with
    | ⟨0, _⟩ => rfl
    | ⟨1, _⟩ => rfl
    | ⟨2, _⟩ => rfl
    | ⟨3, _⟩ => rfl
  · simp only [pointwise]
    exact (zero_add _).trans (Finset.sum_congr rfl fun j _ => mul_comm _ _)

/-- A head of the whole attention at a position and a coordinate. -/
theorem attends_at (q k v : FVec Ideal S1x1024x64x128 .f32) (i : Fin 1024) (h : Fin 64) (d : Fin 128) :
    heads v (shares (weights (scores q k))) (ix3 (0 : Fin 1) i (⟨128 * h.val + d.val, by omega⟩ : Fin 8192))
      = attend (fun i d => q (ix4 (0 : Fin 1) i h d)) (fun j d => k (ix4 (0 : Fin 1) j h d)) (fun j d => v (ix4 (0 : Fin 1) j h d)) i d := by
  have hs : ∀ j, scores q k (ix4 (0 : Fin 1) h i j) = score (fun i d => q (ix4 (0 : Fin 1) i h d)) (fun j d => k (ix4 (0 : Fin 1) j h d)) i j := scores_at q k h i
  have hw : ∀ j, weights (scores q k) (ix4 (0 : Fin 1) h i j) = weight (fun i d => q (ix4 (0 : Fin 1) i h d)) (fun j d => k (ix4 (0 : Fin 1) j h d)) i j := fun j => by
    rw [weights_at, funext hs, hs j]; rfl
  rw [heads_at]
  simp only [shares_at, hw]
  rfl

theorem result_at (x : FVec Ideal S1x1024x1024 .f32) (wq : FVec Ideal S1024x8192 .f32) (k v : FVec Ideal S1x1024x64x128 .f32) (wo : FVec Ideal S8192x1024 .f32) (i n : Fin 1024) :
    result x wq k v wo (ix3 (0 : Fin 1) i n)
      = ∑ e : Fin 8192, heads v (shares (weights (scores (queries x wq) k))) (ix3 (0 : Fin 1) i e) * wo (ix2 e n) := by
  unfold result
  simp only [pointwise]
  exact zero_add _

end Cert.Attn.Whole

end
-- ==== Proof.Equal.lean ====
/- What every device ends with is what the reference computes: the reference's heads are the devices' heads, eight to a
   device, and its product with the output weights is the sum of the devices' products. -/
module

public import proofs.«01_k».proof.Proof.KTotal
public import proofs.«01_k».proof.Proof.RMath

@[expose] public section

noncomputable section

namespace Cert.Attn

open Idealize.ShloMosaic hiding ix0 ix1 ix2 ix3 ix4 ix5
open Idealize.ShloMosaic.ValueIdx
open Cert.KernelIdeal.Run (Inp queries ctxOf outOf)
open scoped BigOperators

/-- Column `e` of device `c` among all. -/
def colOf (c : Fin 8) (e : Fin 1024) : Fin 8192 := ⟨1024 * c.val + e.val, by omega⟩

/-- Head `h` of device `c` among all. -/
def headNo (c : Fin 8) (h : Fin 8) : Fin 64 := ⟨8 * c.val + h.val, by omega⟩

/-- A sum over all columns, device by device. -/
theorem sum_cols (f : Fin 8192 → EReal) : ∑ e, f e = ∑ c : Fin 8, ∑ e : Fin 1024, f (colOf c e) := by
  rw [← Fintype.sum_prod_type' (f := fun c e => f (colOf c e))]
  refine (Fintype.sum_equiv (finProdFinEquiv (m := 8) (n := 1024)) (fun x => f (colOf x.1 x.2)) f fun x => congrArg f (Fin.ext ?_)).symm
  show 1024 * x.1.val + x.2.val = x.2.val + 1024 * x.1.val
  omega

variable (X : FVec Ideal ⟨3, ![1, 1024, 1024]⟩ .f32) (WQ : FVec Ideal ⟨2, ![1024, 8192]⟩ .f32) (K V : FVec Ideal ⟨4, ![1, 1024, 64, 128]⟩ .f32)
  (WO : FVec Ideal ⟨2, ![8192, 1024]⟩ .f32)

/-- That a device reads its part of the whole arrays: all rows, its columns of the query weights, its heads, and its
    rows of the output weights. -/
structure IsPart (c : Fin 8) (a : Inp Ideal) : Prop where
  x : ∀ i u : Fin 1024, a.x (ix2 i u) = X (ix3 (0 : Fin 1) i u)
  wq : ∀ u e : Fin 1024, a.wq (ix2 u e) = WQ (ix2 u (colOf c e))
  k : ∀ (j : Fin 1024) (h : Fin 8) (d : Fin 128), a.k (ix3 j h d) = K (ix4 (0 : Fin 1) j (headNo c h) d)
  v : ∀ (j : Fin 1024) (h : Fin 8) (d : Fin 128), a.v (ix3 j h d) = V (ix4 (0 : Fin 1) j (headNo c h) d)
  wo : ∀ e n : Fin 1024, a.wo (ix2 e n) = WO (ix2 (colOf c e) n)

/-- All heads of the reference. -/
def whole : FVec Ideal ⟨3, ![1, 1024, 8192]⟩ .f32 := Whole.heads V (Whole.shares (Whole.weights (Whole.scores (Whole.queries X WQ) K)))

variable {X WQ K V WO}

theorem queries_part {c : Fin 8} {a : Inp Ideal} (p : IsPart X WQ K V WO c a) (i : Fin 1024) (h : Fin 8) (d : Fin 128) :
    queries a (ix2 i (colAt h d)) = Whole.queries X WQ (ix4 (0 : Fin 1) i (headNo c h) d) := by
  rw [queries_at, Whole.queries_at]
  refine Finset.sum_congr rfl fun u _ => ?_
  rw [p.x, p.wq]
  refine congrArg (fun e => X (ix3 (0 : Fin 1) i u) * WQ (ix2 u e)) (Fin.ext ?_)
  show 1024 * c.val + (128 * h.val + d.val) = 128 * (8 * c.val + h.val) + d.val
  omega

/-- A head of a device is the reference's head. -/
theorem head_part {c : Fin 8} {a : Inp Ideal} (p : IsPart X WQ K V WO c a) (i : Fin 1024) (h : Fin 8) (d : Fin 128) :
    ctxOf a (ix2 i (colAt h d)) = whole X WQ K V (ix3 (0 : Fin 1) i (colOf c (colAt h d))) := by
  have e : (colOf c (colAt h d)) = (⟨128 * (headNo c h).val + d.val, by have := (headNo c h).isLt; omega⟩ : Fin 8192) := Fin.ext (by
    show 1024 * c.val + (128 * h.val + d.val) = 128 * (8 * c.val + h.val) + d.val
    omega)
  rw [ctxOf_at, headVal_at, e]
  unfold whole
  rw [Whole.attends_at]
  simp only [queries_part p, p.k, p.v]

theorem ctx_part {c : Fin 8} {a : Inp Ideal} (p : IsPart X WQ K V WO c a) (i e : Fin 1024) :
    ctxOf a (ix2 i e) = whole X WQ K V (ix3 (0 : Fin 1) i (colOf c e)) := by
  have he : e = colAt ⟨e.val / 128, by omega⟩ ⟨e.val % 128, Nat.mod_lt _ (by decide)⟩ := Fin.ext (by
    show e.val = 128 * (e.val / 128) + e.val % 128
    omega)
  rw [he]
  exact head_part p i _ _

theorem share_part {c : Fin 8} {a : Inp Ideal} (p : IsPart X WQ K V WO c a) (i n : Fin 1024) :
    share a i n = ∑ e : Fin 1024, whole X WQ K V (ix3 (0 : Fin 1) i (colOf c e)) * WO (ix2 (colOf c e) n) := by
  unfold share
  exact Finset.sum_congr rfl fun e _ => by rw [ctx_part p, p.wo]

/-- What every device ends with, at a place. -/
theorem out_part {I : Fin 8 → Inp Ideal} (p : ∀ c, IsPart X WQ K V WO c (I c)) (c : Fin 8) (i n : Fin 1024) :
    outOf I c (ix2 i n) = Whole.result X WQ K V WO (ix3 (0 : Fin 1) i n) := by
  refine (outOf_at I c i n).trans ?_
  rw [Whole.result_at, sum_cols]
  exact Finset.sum_congr rfl fun d _ => share_part (p d) i n

/-- The same as arrays. -/
theorem out_whole {I : Fin 8 → Inp Ideal} (p : ∀ c, IsPart X WQ K V WO c (I c)) (c : Fin 8) :
    broadcastInDim Cert.KernelIdeal.S1x1024x1024 ![1, 2] Cert.KernelIdeal.Gen.bcast_S1024x1024_S1x1024x1024_1_2 (outOf I c) = Whole.result X WQ K V WO := by
  funext j
  obtain ⟨i, n, rfl⟩ : ∃ i n : Fin 1024, j = ix3 (0 : Fin 1) i n := ⟨j 1, j 2, funext fun a => match a with
    | ⟨0, _⟩ => Subsingleton.elim (α := Fin 1) _ _
    | ⟨1, _⟩ => rfl
    | ⟨2, _⟩ => rfl⟩
  refine Eq.trans ?_ (out_part p c i n)
  refine broadcastInDim_apply _ _ _ _ _ fun a => ?_
  match a with
  | ⟨0, _⟩ => rfl
  | ⟨1, _⟩ => rfl

end Cert.Attn

end
-- ==== Proof.Value.lean ====
/- The kernel and the reference, started with the same arrays, end with the same array. -/
module

public import proofs.«01_k».proof.Proof.Same
public import proofs.«01_k».proof.Proof.Rest
public import proofs.«01_k».proof.Proof.KReads
public import proofs.«01_k».proof.Proof.Equal

@[expose] public section

noncomputable section

namespace Cert.Proof

open Idealize.ShloMosaic hiding ix0 ix1 ix2 ix3 ix4 ix5
open Idealize.SL.Sem Idealize.ShloMosaic.ValueIdx Cert.KernelIdeal Cert.KernelIdeal.Gen
open Cert.KernelIdeal.Run (inp read_x read_wq read_k read_v read_wo firstHead firstHead_slices)
open Cert.Attn (IsPart colOf headNo)

/-- A device's heads, read at a place of the whole array. -/
theorem heads_of (c : Fin 8) (x : FVec Ideal S1x1024x64x128 .f32) (j : Fin 1024) (h : Fin 8) (d : Fin 128) :
    extractStridedSlice S1024x8x128 (firstHead c) (shapeCast S1024x64x128 x shapeCasts_S1x1024x64x128_S1024x64x128) (firstHead_slices c) (ix3 j h d)
      = x (ix4 (0 : Fin 1) j (headNo c h) d) :=
  (slice3_axis1_apply (8 * c.val) _ (firstHead_slices c) j h d (headNo c h) rfl).trans
    (shapeCast_1abc_abc_apply x shapeCasts_S1x1024x64x128_S1024x64x128 j (headNo c h) d)

variable (m : (ℓ : Loc nD τ sig) → Buf (Elt Ideal) ℓ)
  (X : FVec Ideal S1x1024x1024 .f32) (WQ : FVec Ideal ⟨2, ![1024, 8192]⟩ .f32) (K V : FVec Ideal S1x1024x64x128 .f32) (WO : FVec Ideal ⟨2, ![8192, 1024]⟩ .f32)

/-- A device whose arguments are its blocks of the whole arrays reads its part of them. -/
theorem part_of (c : Dev nD)
    (h0 : m ((c.tc : Thread nD τ).loc main_arg0) = X)
    (h1 : m ((c.tc : Thread nD τ).loc main_arg1) = Layout.block ⟨2, ![1024, 1024]⟩ ⟨2, ![1024, 8192]⟩ 1 8 c WQ)
    (h2 : m ((c.tc : Thread nD τ).loc main_arg2) = K)
    (h3 : m ((c.tc : Thread nD τ).loc main_arg3) = V)
    (h4 : m ((c.tc : Thread nD τ).loc main_arg4) = Layout.block ⟨2, ![1024, 1024]⟩ ⟨2, ![8192, 1024]⟩ 0 8 c WO) :
    IsPart X WQ K V WO c (inp m c) where
  x i u := by
    rw [read_x, h0]
    exact shapeCast_1ab_ab_apply X shapeCasts_S1x1024x1024_S1024x1024 i u
  wq u e := by
    rw [read_wq, h1]
    refine congrArg WQ (funext fun a => Fin.ext ?_)
    match a with
    | ⟨0, _⟩ => rfl
    | ⟨1, _⟩ => show c.val * 1024 + e.val = 1024 * c.val + e.val; omega
  k j h d := by
    rw [read_k, h2]
    exact heads_of c K j h d
  v j h d := by
    rw [read_v, h3]
    exact heads_of c V j h d
  wo e n := by
    rw [read_wo, h4]
    refine congrArg WO (funext fun a => Fin.ext ?_)
    match a with
    | ⟨0, _⟩ => show c.val * 1024 + e.val = 1024 * c.val + e.val; omega
    | ⟨1, _⟩ => rfl

theorem algebraic : Cert.algebraic_KernelIdeal_ReferenceIdeal := fun m g m' g' _ hm => by
  have p := fun c => part_of m _ _ _ _ _ c (hm c).1 (hm c).2.1 (hm c).2.2.1 (hm c).2.2.2.1 (hm c).2.2.2.2
  refine ⟨Cert.ReferenceIdeal.Value.res_main_v42 m' 0, ?_, ?_⟩
  · refine (θ_run Cert.KernelIdeal.defs _ _).mono (fun r h c => ?_) (Cert.KernelIdeal.Run.run_main (F := Ideal) m g)
    have hc := h.1 c
    refine ⟨hc.2.trans ?_, hc.1.1, hc.1.2.1, hc.1.2.2.1, hc.1.2.2.2.1, hc.1.2.2.2.2⟩
    refine (Cert.Attn.out_whole p c).trans ?_
    exact (Cert.Attn.Whole.result_eq m' 0).symm
  · exact (θ_run Cert.ReferenceIdeal.defs _ _).mono (fun r h => h 0) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Same
public import proofs.«01_k».proof.Proof.Rest
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_ideal, frame_reference, named, algebraic⟩

end Cert.Proof

end
